-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![8192, 2048]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S2048 : Shape := ⟨1, ![2048]⟩
abbrev S2048x2048 : Shape := ⟨2, ![2048, 2048]⟩
abbrev S2x1024x256 : Shape := ⟨3, ![2, 1024, 256]⟩
abbrev S2x3x1024x256 : Shape := ⟨4, ![2, 3, 1024, 256]⟩
abbrev S2x2x1024x256 : Shape := ⟨4, ![2, 2, 1024, 256]⟩
abbrev S2x512x2048 : Shape := ⟨3, ![2, 512, 2048]⟩
abbrev S2x2 : Shape := ⟨2, ![2, 2]⟩
abbrev S2 : Shape := ⟨1, ![2]⟩
abbrev S2x3x8 : Shape := ⟨3, ![2, 3, 8]⟩
abbrev S2x4x2x2 : Shape := ⟨4, ![2, 4, 2, 2]⟩
abbrev S1x1 : Shape := ⟨2, ![1, 1]⟩
abbrev S_ : Shape := ⟨0, ![]⟩
abbrev S1x1x1024x256 : Shape := ⟨4, ![1, 1, 1024, 256]⟩
abbrev S1024x256 : Shape := ⟨2, ![1024, 256]⟩
abbrev S1x1024x256 : Shape := ⟨3, ![1, 1024, 256]⟩
abbrev S1x1x128x256 : Shape := ⟨4, ![1, 1, 128, 256]⟩
abbrev S128x256 : Shape := ⟨2, ![128, 256]⟩
abbrev S1x128x256 : Shape := ⟨3, ![1, 128, 256]⟩
abbrev S1x1x1 : Shape := ⟨3, ![1, 1, 1]⟩
abbrev S1x1x1x1 : Shape := ⟨4, ![1, 1, 1, 1]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S1x512x2048 : Shape := ⟨3, ![1, 512, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2x1024x256, .bf16⟩
  | .local _ .vmem, ⟨2, _⟩ => ⟨S2x3x1024x256, .bf16⟩
  | .local _ .vmem, ⟨3, _⟩ => ⟨S2x2x1024x256, .f32⟩
  | .local _ .vmem, ⟨4, _⟩ => ⟨S2048x2048, .bf16⟩
  | .local _ .vmem, ⟨5, _⟩ => ⟨S2x512x2048, .f32⟩
  | _, _ => ⟨S1x8192x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 167 → Bool
  | ⟨i, _⟩ => dmaSemScopedAt i

abbrev sig : RefSig :=
  (ofTc nBuf bufTy 1 167 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) (c3_i32_19 : BitVec 32) (c0_i32_21 : BitVec 32) : Fin 3 → Nat :=
  let c0_i32_22 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v33 : BitVec 32 := Scalar.addi v5 c3_i32_19
  let c4_i32_20 : BitVec 32 := 4#32
  let v34 : BitVec 32 := Scalar.remsi v33 c4_i32_20
  let c2048_i32 : BitVec 32 := 2048#32
  let v35 : BitVec 32 := Scalar.muli v34 c2048_i32
  let v36 : BitVec 32 := Scalar.addi v35 c0_i32_21
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  ![0, v36.toNat, v32.toNat]
def k0_dev1 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v54 : BitVec 32 := Scalar.muli v2 c16_i32_40
  let v55 : BitVec 32 := Scalar.addi c0_i32_41 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v9 : BitVec 32 := Scalar.addi v5 c3_i32
  let c4_i32_2 : BitVec 32 := 4#32
  let v10 : BitVec 32 := Scalar.remsi v9 c4_i32_2
  let c4_i32_42 : BitVec 32 := 4#32
  let v56 : BitVec 32 := Scalar.muli v10 c4_i32_42
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v58 : BitVec 32 := Scalar.muli v8 c1_i32_43
  let v59 : BitVec 32 := Scalar.addi v57 v58
  v59.toNat
def k0_dev2 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v60 : BitVec 32 := Scalar.muli v2 c16_i32_45
  let v61 : BitVec 32 := Scalar.addi c0_i32_46 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_47 : BitVec 32 := 4#32
  let v62 : BitVec 32 := Scalar.muli v12 c4_i32_47
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v64 : BitVec 32 := Scalar.muli v8 c1_i32_48
  let v65 : BitVec 32 := Scalar.addi v63 v64
  v65.toNat
def k0_dev3 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_50 : BitVec 32 := 16#32
  let v66 : BitVec 32 := Scalar.muli v21 c16_i32_50
  let v67 : BitVec 32 := Scalar.addi c0_i32_51 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v68 : BitVec 32 := Scalar.muli v5 c4_i32_52
  let v69 : BitVec 32 := Scalar.addi v67 v68
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_53 : BitVec 32 := 1#32
  let v70 : BitVec 32 := Scalar.muli v24 c1_i32_53
  let v71 : BitVec 32 := Scalar.addi v69 v70
  v71.toNat
def k0_dev4 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_55 : BitVec 32 := 16#32
  let v72 : BitVec 32 := Scalar.muli v26 c16_i32_55
  let v73 : BitVec 32 := Scalar.addi c0_i32_56 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v74 : BitVec 32 := Scalar.muli v5 c4_i32_57
  let v75 : BitVec 32 := Scalar.addi v73 v74
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_58 : BitVec 32 := 1#32
  let v76 : BitVec 32 := Scalar.muli v29 c1_i32_58
  let v77 : BitVec 32 := Scalar.addi v75 v76
  v77.toNat
def k0_off2 (d0 : Dev nD) : Fin 3 → Nat :=
  let c0_i32_60 : BitVec 32 := 0#32
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  ![0, 0, v32.toNat]
def k0_dev5 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v90 : BitVec 32 := Scalar.muli v2 c16_i32_83
  let v91 : BitVec 32 := Scalar.addi c0_i32_84 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_85 : BitVec 32 := 4#32
  let v92 : BitVec 32 := Scalar.muli v12 c4_i32_85
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v94 : BitVec 32 := Scalar.muli v8 c1_i32_86
  let v95 : BitVec 32 := Scalar.addi v93 v94
  v95.toNat
def k0_dev6 (d0 : Dev nD) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v110 : BitVec 32 := Scalar.muli v2 c16_i32_106
  let v111 : BitVec 32 := Scalar.addi c0_i32_107 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_108 : BitVec 32 := 4#32
  let v112 : BitVec 32 := Scalar.muli v12 c4_i32_108
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v114 : BitVec 32 := Scalar.muli v8 c1_i32_109
  let v115 : BitVec 32 := Scalar.addi v113 v114
  v115.toNat
def k0_dev7 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v130 : BitVec 32 := Scalar.muli v2 c16_i32_128
  let v131 : BitVec 32 := Scalar.addi c0_i32_129 v130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_130 : BitVec 32 := 4#32
  let v132 : BitVec 32 := Scalar.muli v12 c4_i32_130
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v134 : BitVec 32 := Scalar.muli v8 c1_i32_131
  let v135 : BitVec 32 := Scalar.addi v133 v134
  v135.toNat
def k0_dev8 (d0 : Dev nD) : Nat :=
  let c0_i32_152 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_151 : BitVec 32 := 16#32
  let v150 : BitVec 32 := Scalar.muli v2 c16_i32_151
  let v151 : BitVec 32 := Scalar.addi c0_i32_152 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_153 : BitVec 32 := 4#32
  let v152 : BitVec 32 := Scalar.muli v12 c4_i32_153
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v154 : BitVec 32 := Scalar.muli v8 c1_i32_154
  let v155 : BitVec 32 := Scalar.addi v153 v154
  v155.toNat
def k0_dev9 (d0 : Dev nD) : Nat :=
  let c0_i32_174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_173 : BitVec 32 := 16#32
  let v170 : BitVec 32 := Scalar.muli v2 c16_i32_173
  let v171 : BitVec 32 := Scalar.addi c0_i32_174 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_175 : BitVec 32 := 4#32
  let v172 : BitVec 32 := Scalar.muli v12 c4_i32_175
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v174 : BitVec 32 := Scalar.muli v8 c1_i32_176
  let v175 : BitVec 32 := Scalar.addi v173 v174
  v175.toNat
def k0_dev10 (d0 : Dev nD) : Nat :=
  let c0_i32_195 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_194 : BitVec 32 := 16#32
  let v190 : BitVec 32 := Scalar.muli v2 c16_i32_194
  let v191 : BitVec 32 := Scalar.addi c0_i32_195 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_196 : BitVec 32 := 4#32
  let v192 : BitVec 32 := Scalar.muli v12 c4_i32_196
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v194 : BitVec 32 := Scalar.muli v8 c1_i32_197
  let v195 : BitVec 32 := Scalar.addi v193 v194
  v195.toNat
def k0_dev11 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v210 : BitVec 32 := Scalar.muli v2 c16_i32_215
  let v211 : BitVec 32 := Scalar.addi c0_i32_216 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_217 : BitVec 32 := 4#32
  let v212 : BitVec 32 := Scalar.muli v12 c4_i32_217
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v214 : BitVec 32 := Scalar.muli v8 c1_i32_218
  let v215 : BitVec 32 := Scalar.addi v213 v214
  v215.toNat
def k0_dev12 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v230 : BitVec 32 := Scalar.muli v2 c16_i32_237
  let v231 : BitVec 32 := Scalar.addi c0_i32_238 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_239 : BitVec 32 := 4#32
  let v232 : BitVec 32 := Scalar.muli v12 c4_i32_239
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v234 : BitVec 32 := Scalar.muli v8 c1_i32_240
  let v235 : BitVec 32 := Scalar.addi v233 v234
  v235.toNat
def k0_dev13 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v288 : BitVec 32 := Scalar.muli v2 c16_i32_313
  let v289 : BitVec 32 := Scalar.addi c0_i32_314 v288
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_315 : BitVec 32 := 4#32
  let v290 : BitVec 32 := Scalar.muli v12 c4_i32_315
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v292 : BitVec 32 := Scalar.muli v8 c1_i32_316
  let v293 : BitVec 32 := Scalar.addi v291 v292
  v293.toNat
def k0_dev14 (d0 : Dev nD) : Nat :=
  let c0_i32_373 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_372 : BitVec 32 := 16#32
  let v330 : BitVec 32 := Scalar.muli v2 c16_i32_372
  let v331 : BitVec 32 := Scalar.addi c0_i32_373 v330
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_374 : BitVec 32 := 4#32
  let v332 : BitVec 32 := Scalar.muli v12 c4_i32_374
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v334 : BitVec 32 := Scalar.muli v8 c1_i32_375
  let v335 : BitVec 32 := Scalar.addi v333 v334
  v335.toNat
def k0_dev15 (d0 : Dev nD) : Nat :=
  let c0_i32_432 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_431 : BitVec 32 := 16#32
  let v372 : BitVec 32 := Scalar.muli v2 c16_i32_431
  let v373 : BitVec 32 := Scalar.addi c0_i32_432 v372
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_433 : BitVec 32 := 4#32
  let v374 : BitVec 32 := Scalar.muli v12 c4_i32_433
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_434 : BitVec 32 := 1#32
  let v376 : BitVec 32 := Scalar.muli v8 c1_i32_434
  let v377 : BitVec 32 := Scalar.addi v375 v376
  v377.toNat
def k0_dev16 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v414 : BitVec 32 := Scalar.muli v2 c16_i32_490
  let v415 : BitVec 32 := Scalar.addi c0_i32_491 v414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_492 : BitVec 32 := 4#32
  let v416 : BitVec 32 := Scalar.muli v12 c4_i32_492
  let v417 : BitVec 32 := Scalar.addi v415 v416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v418 : BitVec 32 := Scalar.muli v8 c1_i32_493
  let v419 : BitVec 32 := Scalar.addi v417 v418
  v419.toNat
def k0_dev17 (d0 : Dev nD) : Nat :=
  let c0_i32_550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_549 : BitVec 32 := 16#32
  let v456 : BitVec 32 := Scalar.muli v2 c16_i32_549
  let v457 : BitVec 32 := Scalar.addi c0_i32_550 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_551 : BitVec 32 := 4#32
  let v458 : BitVec 32 := Scalar.muli v12 c4_i32_551
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v460 : BitVec 32 := Scalar.muli v8 c1_i32_552
  let v461 : BitVec 32 := Scalar.addi v459 v460
  v461.toNat
def k0_dev18 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_608 : BitVec 32 := 16#32
  let v498 : BitVec 32 := Scalar.muli v2 c16_i32_608
  let v499 : BitVec 32 := Scalar.addi c0_i32_609 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_610 : BitVec 32 := 4#32
  let v500 : BitVec 32 := Scalar.muli v12 c4_i32_610
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v502 : BitVec 32 := Scalar.muli v8 c1_i32_611
  let v503 : BitVec 32 := Scalar.addi v501 v502
  v503.toNat
def k0_dev19 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v540 : BitVec 32 := Scalar.muli v2 c16_i32_667
  let v541 : BitVec 32 := Scalar.addi c0_i32_668 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_669 : BitVec 32 := 4#32
  let v542 : BitVec 32 := Scalar.muli v12 c4_i32_669
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v544 : BitVec 32 := Scalar.muli v8 c1_i32_670
  let v545 : BitVec 32 := Scalar.addi v543 v544
  v545.toNat
def k0_dev20 (d0 : Dev nD) : Nat :=
  let c0_i32_727 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_726 : BitVec 32 := 16#32
  let v582 : BitVec 32 := Scalar.muli v2 c16_i32_726
  let v583 : BitVec 32 := Scalar.addi c0_i32_727 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_728 : BitVec 32 := 4#32
  let v584 : BitVec 32 := Scalar.muli v12 c4_i32_728
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v586 : BitVec 32 := Scalar.muli v8 c1_i32_729
  let v587 : BitVec 32 := Scalar.addi v585 v586
  v587.toNat
def k0_dev21 (d0 : Dev nD) : Nat :=
  let c0_i32_805 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_804 : BitVec 32 := 16#32
  let v640 : BitVec 32 := Scalar.muli v2 c16_i32_804
  let v641 : BitVec 32 := Scalar.addi c0_i32_805 v640
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_806 : BitVec 32 := 4#32
  let v642 : BitVec 32 := Scalar.muli v12 c4_i32_806
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v644 : BitVec 32 := Scalar.muli v8 c1_i32_807
  let v645 : BitVec 32 := Scalar.addi v643 v644
  v645.toNat
def k0_dev22 (d0 : Dev nD) : Nat :=
  let c0_i32_864 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_863 : BitVec 32 := 16#32
  let v682 : BitVec 32 := Scalar.muli v2 c16_i32_863
  let v683 : BitVec 32 := Scalar.addi c0_i32_864 v682
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_865 : BitVec 32 := 4#32
  let v684 : BitVec 32 := Scalar.muli v12 c4_i32_865
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_866 : BitVec 32 := 1#32
  let v686 : BitVec 32 := Scalar.muli v8 c1_i32_866
  let v687 : BitVec 32 := Scalar.addi v685 v686
  v687.toNat
def k0_dev23 (d0 : Dev nD) : Nat :=
  let c0_i32_923 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_922 : BitVec 32 := 16#32
  let v724 : BitVec 32 := Scalar.muli v2 c16_i32_922
  let v725 : BitVec 32 := Scalar.addi c0_i32_923 v724
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_924 : BitVec 32 := 4#32
  let v726 : BitVec 32 := Scalar.muli v12 c4_i32_924
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_925 : BitVec 32 := 1#32
  let v728 : BitVec 32 := Scalar.muli v8 c1_i32_925
  let v729 : BitVec 32 := Scalar.addi v727 v728
  v729.toNat
def k0_dev24 (d0 : Dev nD) : Nat :=
  let c0_i32_982 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_981 : BitVec 32 := 16#32
  let v766 : BitVec 32 := Scalar.muli v2 c16_i32_981
  let v767 : BitVec 32 := Scalar.addi c0_i32_982 v766
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_983 : BitVec 32 := 4#32
  let v768 : BitVec 32 := Scalar.muli v12 c4_i32_983
  let v769 : BitVec 32 := Scalar.addi v767 v768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_984 : BitVec 32 := 1#32
  let v770 : BitVec 32 := Scalar.muli v8 c1_i32_984
  let v771 : BitVec 32 := Scalar.addi v769 v770
  v771.toNat
def k0_dev25 (d0 : Dev nD) : Nat :=
  let c0_i32_1041 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1040 : BitVec 32 := 16#32
  let v808 : BitVec 32 := Scalar.muli v2 c16_i32_1040
  let v809 : BitVec 32 := Scalar.addi c0_i32_1041 v808
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1042 : BitVec 32 := 4#32
  let v810 : BitVec 32 := Scalar.muli v12 c4_i32_1042
  let v811 : BitVec 32 := Scalar.addi v809 v810
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1043 : BitVec 32 := 1#32
  let v812 : BitVec 32 := Scalar.muli v8 c1_i32_1043
  let v813 : BitVec 32 := Scalar.addi v811 v812
  v813.toNat
def k0_dev26 (d0 : Dev nD) : Nat :=
  let c0_i32_1100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1099 : BitVec 32 := 16#32
  let v850 : BitVec 32 := Scalar.muli v2 c16_i32_1099
  let v851 : BitVec 32 := Scalar.addi c0_i32_1100 v850
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1101 : BitVec 32 := 4#32
  let v852 : BitVec 32 := Scalar.muli v12 c4_i32_1101
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1102 : BitVec 32 := 1#32
  let v854 : BitVec 32 := Scalar.muli v8 c1_i32_1102
  let v855 : BitVec 32 := Scalar.addi v853 v854
  v855.toNat
def k0_dev27 (d0 : Dev nD) : Nat :=
  let c0_i32_1159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1158 : BitVec 32 := 16#32
  let v892 : BitVec 32 := Scalar.muli v2 c16_i32_1158
  let v893 : BitVec 32 := Scalar.addi c0_i32_1159 v892
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1160 : BitVec 32 := 4#32
  let v894 : BitVec 32 := Scalar.muli v12 c4_i32_1160
  let v895 : BitVec 32 := Scalar.addi v893 v894
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v896 : BitVec 32 := Scalar.muli v8 c1_i32_1161
  let v897 : BitVec 32 := Scalar.addi v895 v896
  v897.toNat
def k0_dev28 (d0 : Dev nD) : Nat :=
  let c0_i32_1218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1217 : BitVec 32 := 16#32
  let v934 : BitVec 32 := Scalar.muli v2 c16_i32_1217
  let v935 : BitVec 32 := Scalar.addi c0_i32_1218 v934
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1219 : BitVec 32 := 4#32
  let v936 : BitVec 32 := Scalar.muli v12 c4_i32_1219
  let v937 : BitVec 32 := Scalar.addi v935 v936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v938 : BitVec 32 := Scalar.muli v8 c1_i32_1220
  let v939 : BitVec 32 := Scalar.addi v937 v938
  v939.toNat
def k0_off3 (d0 : Dev nD) (c0_i32_1226 : BitVec 32) : Fin 3 → Nat :=
  let c0_i32_1227 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_1225 : BitVec 32 := 2048#32
  let v948 : BitVec 32 := Scalar.muli v5 c2048_i32_1225
  let v949 : BitVec 32 := Scalar.addi v948 c0_i32_1226
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  ![0, v949.toNat, v32.toNat]
def k0_off4 (d0 : Dev nD) : Fin 2 → Nat :=
  let c0_1280 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v987 : Index := Scalar.indexCast v32
  ![0, v987.toNat]
def k0_off5 (d0 : Dev nD) : Fin 2 → Nat :=
  let c128_1320 : Index := 128#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1016 : Index := Scalar.indexCast v32
  ![128, v1016.toNat]
def k0_off6 (d0 : Dev nD) : Fin 2 → Nat :=
  let c256_1360 : Index := 256#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1045 : Index := Scalar.indexCast v32
  ![256, v1045.toNat]
def k0_off7 (d0 : Dev nD) : Fin 2 → Nat :=
  let c384_1400 : Index := 384#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1074 : Index := Scalar.indexCast v32
  ![384, v1074.toNat]
def k0_off8 (d0 : Dev nD) : Fin 2 → Nat :=
  let c512_1440 : Index := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1103 : Index := Scalar.indexCast v32
  ![512, v1103.toNat]
def k0_off9 (d0 : Dev nD) : Fin 2 → Nat :=
  let c640_1480 : Index := 640#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1132 : Index := Scalar.indexCast v32
  ![640, v1132.toNat]
def k0_off10 (d0 : Dev nD) : Fin 2 → Nat :=
  let c768_1520 : Index := 768#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1161 : Index := Scalar.indexCast v32
  ![768, v1161.toNat]
def k0_off11 (d0 : Dev nD) : Fin 2 → Nat :=
  let c896_1560 : Index := 896#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v1190 : Index := Scalar.indexCast v32
  ![896, v1190.toNat]
def k0_off12 (d0 : Dev nD) (c8_i32_1561 : BitVec 32) : Fin 2 → Nat :=
  let c0_i32_1609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v1194 : BitVec 32 := Scalar.addi v15 c8_i32_1561
  let c8_i32_1562 : BitVec 32 := 8#32
  let v1195 : BitVec 32 := Scalar.remsi v1194 c8_i32_1562
  let c4_i32_1563 : BitVec 32 := 4#32
  let v1196 : BitVec 1 := Scalar.cmpi .slt v1195 c4_i32_1563
  let c0_i32_1564 : BitVec 32 := 0#32
  let c1_i32_1565 : BitVec 32 := 1#32
  let v1197 : BitVec 32 := Scalar.select v1196 c0_i32_1564 c1_i32_1565
  let c4_i32_1568 : BitVec 32 := 4#32
  let v1201 : BitVec 32 := Scalar.muli v1197 c4_i32_1568
  let c4_i32_1566 : BitVec 32 := 4#32
  let v1198 : BitVec 1 := Scalar.cmpi .slt v1195 c4_i32_1566
  let c7_i32_1567 : BitVec 32 := 7#32
  let v1199 : BitVec 32 := Scalar.subi c7_i32_1567 v1195
  let v1200 : BitVec 32 := Scalar.select v1198 v1195 v1199
  let v1202 : BitVec 32 := Scalar.addi v1201 v1200
  let c256_i32_1569 : BitVec 32 := 256#32
  let v1203 : BitVec 32 := Scalar.muli v1202 c256_i32_1569
  ![0, v1203.toNat]
def k0_off12_at (r : Fin 7) : BitVec 32 :=
  if r.val < 3 then
    if r.val < 1 then
      8#32
    else
      if r.val < 2 then
        0#32
      else
        7#32
  else
    if r.val < 5 then
      if r.val < 4 then
        1#32
      else
        6#32
    else
      if r.val < 6 then
        2#32
      else
        5#32
def k0_dev29 (d0 : Dev nD) : Nat :=
  let c0_i32_1606 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_1605 : BitVec 32 := 16#32
  let v1234 : BitVec 32 := Scalar.muli v21 c16_i32_1605
  let v1235 : BitVec 32 := Scalar.addi c0_i32_1606 v1234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1607 : BitVec 32 := 4#32
  let v1236 : BitVec 32 := Scalar.muli v5 c4_i32_1607
  let v1237 : BitVec 32 := Scalar.addi v1235 v1236
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_1608 : BitVec 32 := 1#32
  let v1238 : BitVec 32 := Scalar.muli v24 c1_i32_1608
  let v1239 : BitVec 32 := Scalar.addi v1237 v1238
  v1239.toNat
def k0_dev30 (d0 : Dev nD) : Nat :=
  let c0_i32_1620 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_1619 : BitVec 32 := 16#32
  let v1246 : BitVec 32 := Scalar.muli v26 c16_i32_1619
  let v1247 : BitVec 32 := Scalar.addi c0_i32_1620 v1246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1621 : BitVec 32 := 4#32
  let v1248 : BitVec 32 := Scalar.muli v5 c4_i32_1621
  let v1249 : BitVec 32 := Scalar.addi v1247 v1248
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_1622 : BitVec 32 := 1#32
  let v1250 : BitVec 32 := Scalar.muli v29 c1_i32_1622
  let v1251 : BitVec 32 := Scalar.addi v1249 v1250
  v1251.toNat
def k0_off13 (d0 : Dev nD) (c8_i32_1570 : BitVec 32) : Fin 2 → Nat :=
  let c512_i32_1637 : BitVec 32 := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v1204 : BitVec 32 := Scalar.addi v15 c8_i32_1570
  let c8_i32_1571 : BitVec 32 := 8#32
  let v1205 : BitVec 32 := Scalar.remsi v1204 c8_i32_1571
  let c4_i32_1572 : BitVec 32 := 4#32
  let v1206 : BitVec 1 := Scalar.cmpi .slt v1205 c4_i32_1572
  let c0_i32_1573 : BitVec 32 := 0#32
  let c1_i32_1574 : BitVec 32 := 1#32
  let v1207 : BitVec 32 := Scalar.select v1206 c0_i32_1573 c1_i32_1574
  let c4_i32_1577 : BitVec 32 := 4#32
  let v1211 : BitVec 32 := Scalar.muli v1207 c4_i32_1577
  let c4_i32_1575 : BitVec 32 := 4#32
  let v1208 : BitVec 1 := Scalar.cmpi .slt v1205 c4_i32_1575
  let c7_i32_1576 : BitVec 32 := 7#32
  let v1209 : BitVec 32 := Scalar.subi c7_i32_1576 v1205
  let v1210 : BitVec 32 := Scalar.select v1208 v1205 v1209
  let v1212 : BitVec 32 := Scalar.addi v1211 v1210
  let c256_i32_1578 : BitVec 32 := 256#32
  let v1213 : BitVec 32 := Scalar.muli v1212 c256_i32_1578
  ![512, v1213.toNat]
def k0_off13_at (r : Fin 7) : BitVec 32 :=
  if r.val < 3 then
    if r.val < 1 then
      8#32
    else
      if r.val < 2 then
        0#32
      else
        7#32
  else
    if r.val < 5 then
      if r.val < 4 then
        1#32
      else
        6#32
    else
      if r.val < 6 then
        2#32
      else
        5#32
def k0_dev31 (d0 : Dev nD) : Nat :=
  let c0_i32_1634 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_1633 : BitVec 32 := 16#32
  let v1258 : BitVec 32 := Scalar.muli v21 c16_i32_1633
  let v1259 : BitVec 32 := Scalar.addi c0_i32_1634 v1258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1635 : BitVec 32 := 4#32
  let v1260 : BitVec 32 := Scalar.muli v5 c4_i32_1635
  let v1261 : BitVec 32 := Scalar.addi v1259 v1260
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_1636 : BitVec 32 := 1#32
  let v1262 : BitVec 32 := Scalar.muli v24 c1_i32_1636
  let v1263 : BitVec 32 := Scalar.addi v1261 v1262
  v1263.toNat
def k0_dev32 (d0 : Dev nD) : Nat :=
  let c0_i32_1648 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_1647 : BitVec 32 := 16#32
  let v1270 : BitVec 32 := Scalar.muli v26 c16_i32_1647
  let v1271 : BitVec 32 := Scalar.addi c0_i32_1648 v1270
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1649 : BitVec 32 := 4#32
  let v1272 : BitVec 32 := Scalar.muli v5 c4_i32_1649
  let v1273 : BitVec 32 := Scalar.addi v1271 v1272
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_1650 : BitVec 32 := 1#32
  let v1274 : BitVec 32 := Scalar.muli v29 c1_i32_1650
  let v1275 : BitVec 32 := Scalar.addi v1273 v1274
  v1275.toNat
def k0_dev33 (d0 : Dev nD) : Nat :=
  let c0_i32_1678 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1677 : BitVec 32 := 16#32
  let v1294 : BitVec 32 := Scalar.muli v2 c16_i32_1677
  let v1295 : BitVec 32 := Scalar.addi c0_i32_1678 v1294
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1679 : BitVec 32 := 4#32
  let v1296 : BitVec 32 := Scalar.muli v12 c4_i32_1679
  let v1297 : BitVec 32 := Scalar.addi v1295 v1296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1680 : BitVec 32 := 1#32
  let v1298 : BitVec 32 := Scalar.muli v8 c1_i32_1680
  let v1299 : BitVec 32 := Scalar.addi v1297 v1298
  v1299.toNat
def k0_dev34 (d0 : Dev nD) : Nat :=
  let c0_i32_1702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1701 : BitVec 32 := 16#32
  let v1314 : BitVec 32 := Scalar.muli v2 c16_i32_1701
  let v1315 : BitVec 32 := Scalar.addi c0_i32_1702 v1314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1703 : BitVec 32 := 4#32
  let v1316 : BitVec 32 := Scalar.muli v12 c4_i32_1703
  let v1317 : BitVec 32 := Scalar.addi v1315 v1316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v1318 : BitVec 32 := Scalar.muli v8 c1_i32_1704
  let v1319 : BitVec 32 := Scalar.addi v1317 v1318
  v1319.toNat
def k0_dev35 (d0 : Dev nD) : Nat :=
  let c0_i32_1726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1725 : BitVec 32 := 16#32
  let v1334 : BitVec 32 := Scalar.muli v2 c16_i32_1725
  let v1335 : BitVec 32 := Scalar.addi c0_i32_1726 v1334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1727 : BitVec 32 := 4#32
  let v1336 : BitVec 32 := Scalar.muli v12 c4_i32_1727
  let v1337 : BitVec 32 := Scalar.addi v1335 v1336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1728 : BitVec 32 := 1#32
  let v1338 : BitVec 32 := Scalar.muli v8 c1_i32_1728
  let v1339 : BitVec 32 := Scalar.addi v1337 v1338
  v1339.toNat
def k0_dev36 (d0 : Dev nD) : Nat :=
  let c0_i32_1750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1749 : BitVec 32 := 16#32
  let v1354 : BitVec 32 := Scalar.muli v2 c16_i32_1749
  let v1355 : BitVec 32 := Scalar.addi c0_i32_1750 v1354
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1751 : BitVec 32 := 4#32
  let v1356 : BitVec 32 := Scalar.muli v12 c4_i32_1751
  let v1357 : BitVec 32 := Scalar.addi v1355 v1356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1752 : BitVec 32 := 1#32
  let v1358 : BitVec 32 := Scalar.muli v8 c1_i32_1752
  let v1359 : BitVec 32 := Scalar.addi v1357 v1358
  v1359.toNat
def k0_dev37 (d0 : Dev nD) : Nat :=
  let c0_i32_1774 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1773 : BitVec 32 := 16#32
  let v1374 : BitVec 32 := Scalar.muli v2 c16_i32_1773
  let v1375 : BitVec 32 := Scalar.addi c0_i32_1774 v1374
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1775 : BitVec 32 := 4#32
  let v1376 : BitVec 32 := Scalar.muli v12 c4_i32_1775
  let v1377 : BitVec 32 := Scalar.addi v1375 v1376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1776 : BitVec 32 := 1#32
  let v1378 : BitVec 32 := Scalar.muli v8 c1_i32_1776
  let v1379 : BitVec 32 := Scalar.addi v1377 v1378
  v1379.toNat
def k0_dev38 (d0 : Dev nD) : Nat :=
  let c0_i32_1798 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1797 : BitVec 32 := 16#32
  let v1394 : BitVec 32 := Scalar.muli v2 c16_i32_1797
  let v1395 : BitVec 32 := Scalar.addi c0_i32_1798 v1394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1799 : BitVec 32 := 4#32
  let v1396 : BitVec 32 := Scalar.muli v12 c4_i32_1799
  let v1397 : BitVec 32 := Scalar.addi v1395 v1396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1800 : BitVec 32 := 1#32
  let v1398 : BitVec 32 := Scalar.muli v8 c1_i32_1800
  let v1399 : BitVec 32 := Scalar.addi v1397 v1398
  v1399.toNat
def k0_dev39 (d0 : Dev nD) : Nat :=
  let c0_i32_1822 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1821 : BitVec 32 := 16#32
  let v1414 : BitVec 32 := Scalar.muli v2 c16_i32_1821
  let v1415 : BitVec 32 := Scalar.addi c0_i32_1822 v1414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1823 : BitVec 32 := 4#32
  let v1416 : BitVec 32 := Scalar.muli v12 c4_i32_1823
  let v1417 : BitVec 32 := Scalar.addi v1415 v1416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1824 : BitVec 32 := 1#32
  let v1418 : BitVec 32 := Scalar.muli v8 c1_i32_1824
  let v1419 : BitVec 32 := Scalar.addi v1417 v1418
  v1419.toNat
def k0_dev40 (d0 : Dev nD) : Nat :=
  let c0_i32_1846 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1845 : BitVec 32 := 16#32
  let v1434 : BitVec 32 := Scalar.muli v2 c16_i32_1845
  let v1435 : BitVec 32 := Scalar.addi c0_i32_1846 v1434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_1847 : BitVec 32 := 4#32
  let v1436 : BitVec 32 := Scalar.muli v12 c4_i32_1847
  let v1437 : BitVec 32 := Scalar.addi v1435 v1436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1848 : BitVec 32 := 1#32
  let v1438 : BitVec 32 := Scalar.muli v8 c1_i32_1848
  let v1439 : BitVec 32 := Scalar.addi v1437 v1438
  v1439.toNat
def k0_dev41 (d0 : Dev nD) : Nat :=
  let c0_i32_1934 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_1933 : BitVec 32 := 16#32
  let v1512 : BitVec 32 := Scalar.muli v21 c16_i32_1933
  let v1513 : BitVec 32 := Scalar.addi c0_i32_1934 v1512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1935 : BitVec 32 := 4#32
  let v1514 : BitVec 32 := Scalar.muli v5 c4_i32_1935
  let v1515 : BitVec 32 := Scalar.addi v1513 v1514
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_1936 : BitVec 32 := 1#32
  let v1516 : BitVec 32 := Scalar.muli v24 c1_i32_1936
  let v1517 : BitVec 32 := Scalar.addi v1515 v1516
  v1517.toNat
def k0_dev42 (d0 : Dev nD) : Nat :=
  let c0_i32_1973 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_1972 : BitVec 32 := 16#32
  let v1538 : BitVec 32 := Scalar.muli v26 c16_i32_1972
  let v1539 : BitVec 32 := Scalar.addi c0_i32_1973 v1538
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1974 : BitVec 32 := 4#32
  let v1540 : BitVec 32 := Scalar.muli v5 c4_i32_1974
  let v1541 : BitVec 32 := Scalar.addi v1539 v1540
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_1975 : BitVec 32 := 1#32
  let v1542 : BitVec 32 := Scalar.muli v29 c1_i32_1975
  let v1543 : BitVec 32 := Scalar.addi v1541 v1542
  v1543.toNat
def k0_dev43 (d0 : Dev nD) : Nat :=
  let c0_i32_2012 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_2011 : BitVec 32 := 16#32
  let v1564 : BitVec 32 := Scalar.muli v21 c16_i32_2011
  let v1565 : BitVec 32 := Scalar.addi c0_i32_2012 v1564
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2013 : BitVec 32 := 4#32
  let v1566 : BitVec 32 := Scalar.muli v5 c4_i32_2013
  let v1567 : BitVec 32 := Scalar.addi v1565 v1566
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_2014 : BitVec 32 := 1#32
  let v1568 : BitVec 32 := Scalar.muli v24 c1_i32_2014
  let v1569 : BitVec 32 := Scalar.addi v1567 v1568
  v1569.toNat
def k0_dev44 (d0 : Dev nD) : Nat :=
  let c0_i32_2051 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_2050 : BitVec 32 := 16#32
  let v1590 : BitVec 32 := Scalar.muli v26 c16_i32_2050
  let v1591 : BitVec 32 := Scalar.addi c0_i32_2051 v1590
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2052 : BitVec 32 := 4#32
  let v1592 : BitVec 32 := Scalar.muli v5 c4_i32_2052
  let v1593 : BitVec 32 := Scalar.addi v1591 v1592
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_2053 : BitVec 32 := 1#32
  let v1594 : BitVec 32 := Scalar.muli v29 c1_i32_2053
  let v1595 : BitVec 32 := Scalar.addi v1593 v1594
  v1595.toNat
def k0_dev45 (d0 : Dev nD) : Nat :=
  let c0_i32_2116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2115 : BitVec 32 := 16#32
  let v1636 : BitVec 32 := Scalar.muli v2 c16_i32_2115
  let v1637 : BitVec 32 := Scalar.addi c0_i32_2116 v1636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2117 : BitVec 32 := 4#32
  let v1638 : BitVec 32 := Scalar.muli v12 c4_i32_2117
  let v1639 : BitVec 32 := Scalar.addi v1637 v1638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2118 : BitVec 32 := 1#32
  let v1640 : BitVec 32 := Scalar.muli v8 c1_i32_2118
  let v1641 : BitVec 32 := Scalar.addi v1639 v1640
  v1641.toNat
def k0_dev46 (d0 : Dev nD) : Nat :=
  let c0_i32_2175 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2174 : BitVec 32 := 16#32
  let v1678 : BitVec 32 := Scalar.muli v2 c16_i32_2174
  let v1679 : BitVec 32 := Scalar.addi c0_i32_2175 v1678
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2176 : BitVec 32 := 4#32
  let v1680 : BitVec 32 := Scalar.muli v12 c4_i32_2176
  let v1681 : BitVec 32 := Scalar.addi v1679 v1680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2177 : BitVec 32 := 1#32
  let v1682 : BitVec 32 := Scalar.muli v8 c1_i32_2177
  let v1683 : BitVec 32 := Scalar.addi v1681 v1682
  v1683.toNat
def k0_dev47 (d0 : Dev nD) : Nat :=
  let c0_i32_2234 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2233 : BitVec 32 := 16#32
  let v1720 : BitVec 32 := Scalar.muli v2 c16_i32_2233
  let v1721 : BitVec 32 := Scalar.addi c0_i32_2234 v1720
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2235 : BitVec 32 := 4#32
  let v1722 : BitVec 32 := Scalar.muli v12 c4_i32_2235
  let v1723 : BitVec 32 := Scalar.addi v1721 v1722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2236 : BitVec 32 := 1#32
  let v1724 : BitVec 32 := Scalar.muli v8 c1_i32_2236
  let v1725 : BitVec 32 := Scalar.addi v1723 v1724
  v1725.toNat
def k0_dev48 (d0 : Dev nD) : Nat :=
  let c0_i32_2293 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2292 : BitVec 32 := 16#32
  let v1762 : BitVec 32 := Scalar.muli v2 c16_i32_2292
  let v1763 : BitVec 32 := Scalar.addi c0_i32_2293 v1762
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2294 : BitVec 32 := 4#32
  let v1764 : BitVec 32 := Scalar.muli v12 c4_i32_2294
  let v1765 : BitVec 32 := Scalar.addi v1763 v1764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2295 : BitVec 32 := 1#32
  let v1766 : BitVec 32 := Scalar.muli v8 c1_i32_2295
  let v1767 : BitVec 32 := Scalar.addi v1765 v1766
  v1767.toNat
def k0_dev49 (d0 : Dev nD) : Nat :=
  let c0_i32_2352 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2351 : BitVec 32 := 16#32
  let v1804 : BitVec 32 := Scalar.muli v2 c16_i32_2351
  let v1805 : BitVec 32 := Scalar.addi c0_i32_2352 v1804
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2353 : BitVec 32 := 4#32
  let v1806 : BitVec 32 := Scalar.muli v12 c4_i32_2353
  let v1807 : BitVec 32 := Scalar.addi v1805 v1806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2354 : BitVec 32 := 1#32
  let v1808 : BitVec 32 := Scalar.muli v8 c1_i32_2354
  let v1809 : BitVec 32 := Scalar.addi v1807 v1808
  v1809.toNat
def k0_dev50 (d0 : Dev nD) : Nat :=
  let c0_i32_2411 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2410 : BitVec 32 := 16#32
  let v1846 : BitVec 32 := Scalar.muli v2 c16_i32_2410
  let v1847 : BitVec 32 := Scalar.addi c0_i32_2411 v1846
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2412 : BitVec 32 := 4#32
  let v1848 : BitVec 32 := Scalar.muli v12 c4_i32_2412
  let v1849 : BitVec 32 := Scalar.addi v1847 v1848
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2413 : BitVec 32 := 1#32
  let v1850 : BitVec 32 := Scalar.muli v8 c1_i32_2413
  let v1851 : BitVec 32 := Scalar.addi v1849 v1850
  v1851.toNat
def k0_dev51 (d0 : Dev nD) : Nat :=
  let c0_i32_2470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2469 : BitVec 32 := 16#32
  let v1888 : BitVec 32 := Scalar.muli v2 c16_i32_2469
  let v1889 : BitVec 32 := Scalar.addi c0_i32_2470 v1888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2471 : BitVec 32 := 4#32
  let v1890 : BitVec 32 := Scalar.muli v12 c4_i32_2471
  let v1891 : BitVec 32 := Scalar.addi v1889 v1890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2472 : BitVec 32 := 1#32
  let v1892 : BitVec 32 := Scalar.muli v8 c1_i32_2472
  let v1893 : BitVec 32 := Scalar.addi v1891 v1892
  v1893.toNat
def k0_dev52 (d0 : Dev nD) : Nat :=
  let c0_i32_2529 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2528 : BitVec 32 := 16#32
  let v1930 : BitVec 32 := Scalar.muli v2 c16_i32_2528
  let v1931 : BitVec 32 := Scalar.addi c0_i32_2529 v1930
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2530 : BitVec 32 := 4#32
  let v1932 : BitVec 32 := Scalar.muli v12 c4_i32_2530
  let v1933 : BitVec 32 := Scalar.addi v1931 v1932
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2531 : BitVec 32 := 1#32
  let v1934 : BitVec 32 := Scalar.muli v8 c1_i32_2531
  let v1935 : BitVec 32 := Scalar.addi v1933 v1934
  v1935.toNat
def k0_dev53 (d0 : Dev nD) : Nat :=
  let c0_i32_2617 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_2616 : BitVec 32 := 16#32
  let v2008 : BitVec 32 := Scalar.muli v21 c16_i32_2616
  let v2009 : BitVec 32 := Scalar.addi c0_i32_2617 v2008
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2618 : BitVec 32 := 4#32
  let v2010 : BitVec 32 := Scalar.muli v5 c4_i32_2618
  let v2011 : BitVec 32 := Scalar.addi v2009 v2010
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_2619 : BitVec 32 := 1#32
  let v2012 : BitVec 32 := Scalar.muli v24 c1_i32_2619
  let v2013 : BitVec 32 := Scalar.addi v2011 v2012
  v2013.toNat
def k0_dev54 (d0 : Dev nD) : Nat :=
  let c0_i32_2656 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_2655 : BitVec 32 := 16#32
  let v2034 : BitVec 32 := Scalar.muli v26 c16_i32_2655
  let v2035 : BitVec 32 := Scalar.addi c0_i32_2656 v2034
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2657 : BitVec 32 := 4#32
  let v2036 : BitVec 32 := Scalar.muli v5 c4_i32_2657
  let v2037 : BitVec 32 := Scalar.addi v2035 v2036
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_2658 : BitVec 32 := 1#32
  let v2038 : BitVec 32 := Scalar.muli v29 c1_i32_2658
  let v2039 : BitVec 32 := Scalar.addi v2037 v2038
  v2039.toNat
def k0_dev55 (d0 : Dev nD) : Nat :=
  let c0_i32_2695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_2694 : BitVec 32 := 16#32
  let v2060 : BitVec 32 := Scalar.muli v21 c16_i32_2694
  let v2061 : BitVec 32 := Scalar.addi c0_i32_2695 v2060
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2696 : BitVec 32 := 4#32
  let v2062 : BitVec 32 := Scalar.muli v5 c4_i32_2696
  let v2063 : BitVec 32 := Scalar.addi v2061 v2062
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_2697 : BitVec 32 := 1#32
  let v2064 : BitVec 32 := Scalar.muli v24 c1_i32_2697
  let v2065 : BitVec 32 := Scalar.addi v2063 v2064
  v2065.toNat
def k0_dev56 (d0 : Dev nD) : Nat :=
  let c0_i32_2734 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_2733 : BitVec 32 := 16#32
  let v2086 : BitVec 32 := Scalar.muli v26 c16_i32_2733
  let v2087 : BitVec 32 := Scalar.addi c0_i32_2734 v2086
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2735 : BitVec 32 := 4#32
  let v2088 : BitVec 32 := Scalar.muli v5 c4_i32_2735
  let v2089 : BitVec 32 := Scalar.addi v2087 v2088
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_2736 : BitVec 32 := 1#32
  let v2090 : BitVec 32 := Scalar.muli v29 c1_i32_2736
  let v2091 : BitVec 32 := Scalar.addi v2089 v2090
  v2091.toNat
def k0_dev57 (d0 : Dev nD) : Nat :=
  let c0_i32_2799 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2798 : BitVec 32 := 16#32
  let v2132 : BitVec 32 := Scalar.muli v2 c16_i32_2798
  let v2133 : BitVec 32 := Scalar.addi c0_i32_2799 v2132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2800 : BitVec 32 := 4#32
  let v2134 : BitVec 32 := Scalar.muli v12 c4_i32_2800
  let v2135 : BitVec 32 := Scalar.addi v2133 v2134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2801 : BitVec 32 := 1#32
  let v2136 : BitVec 32 := Scalar.muli v8 c1_i32_2801
  let v2137 : BitVec 32 := Scalar.addi v2135 v2136
  v2137.toNat
def k0_dev58 (d0 : Dev nD) : Nat :=
  let c0_i32_2858 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2857 : BitVec 32 := 16#32
  let v2174 : BitVec 32 := Scalar.muli v2 c16_i32_2857
  let v2175 : BitVec 32 := Scalar.addi c0_i32_2858 v2174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2859 : BitVec 32 := 4#32
  let v2176 : BitVec 32 := Scalar.muli v12 c4_i32_2859
  let v2177 : BitVec 32 := Scalar.addi v2175 v2176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2860 : BitVec 32 := 1#32
  let v2178 : BitVec 32 := Scalar.muli v8 c1_i32_2860
  let v2179 : BitVec 32 := Scalar.addi v2177 v2178
  v2179.toNat
def k0_dev59 (d0 : Dev nD) : Nat :=
  let c0_i32_2917 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2916 : BitVec 32 := 16#32
  let v2216 : BitVec 32 := Scalar.muli v2 c16_i32_2916
  let v2217 : BitVec 32 := Scalar.addi c0_i32_2917 v2216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2918 : BitVec 32 := 4#32
  let v2218 : BitVec 32 := Scalar.muli v12 c4_i32_2918
  let v2219 : BitVec 32 := Scalar.addi v2217 v2218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2919 : BitVec 32 := 1#32
  let v2220 : BitVec 32 := Scalar.muli v8 c1_i32_2919
  let v2221 : BitVec 32 := Scalar.addi v2219 v2220
  v2221.toNat
def k0_dev60 (d0 : Dev nD) : Nat :=
  let c0_i32_2976 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2975 : BitVec 32 := 16#32
  let v2258 : BitVec 32 := Scalar.muli v2 c16_i32_2975
  let v2259 : BitVec 32 := Scalar.addi c0_i32_2976 v2258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_2977 : BitVec 32 := 4#32
  let v2260 : BitVec 32 := Scalar.muli v12 c4_i32_2977
  let v2261 : BitVec 32 := Scalar.addi v2259 v2260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2978 : BitVec 32 := 1#32
  let v2262 : BitVec 32 := Scalar.muli v8 c1_i32_2978
  let v2263 : BitVec 32 := Scalar.addi v2261 v2262
  v2263.toNat
def k0_dev61 (d0 : Dev nD) : Nat :=
  let c0_i32_3035 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3034 : BitVec 32 := 16#32
  let v2300 : BitVec 32 := Scalar.muli v2 c16_i32_3034
  let v2301 : BitVec 32 := Scalar.addi c0_i32_3035 v2300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_3036 : BitVec 32 := 4#32
  let v2302 : BitVec 32 := Scalar.muli v12 c4_i32_3036
  let v2303 : BitVec 32 := Scalar.addi v2301 v2302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3037 : BitVec 32 := 1#32
  let v2304 : BitVec 32 := Scalar.muli v8 c1_i32_3037
  let v2305 : BitVec 32 := Scalar.addi v2303 v2304
  v2305.toNat
def k0_dev62 (d0 : Dev nD) : Nat :=
  let c0_i32_3094 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3093 : BitVec 32 := 16#32
  let v2342 : BitVec 32 := Scalar.muli v2 c16_i32_3093
  let v2343 : BitVec 32 := Scalar.addi c0_i32_3094 v2342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_3095 : BitVec 32 := 4#32
  let v2344 : BitVec 32 := Scalar.muli v12 c4_i32_3095
  let v2345 : BitVec 32 := Scalar.addi v2343 v2344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3096 : BitVec 32 := 1#32
  let v2346 : BitVec 32 := Scalar.muli v8 c1_i32_3096
  let v2347 : BitVec 32 := Scalar.addi v2345 v2346
  v2347.toNat
def k0_dev63 (d0 : Dev nD) : Nat :=
  let c0_i32_3153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3152 : BitVec 32 := 16#32
  let v2384 : BitVec 32 := Scalar.muli v2 c16_i32_3152
  let v2385 : BitVec 32 := Scalar.addi c0_i32_3153 v2384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_3154 : BitVec 32 := 4#32
  let v2386 : BitVec 32 := Scalar.muli v12 c4_i32_3154
  let v2387 : BitVec 32 := Scalar.addi v2385 v2386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3155 : BitVec 32 := 1#32
  let v2388 : BitVec 32 := Scalar.muli v8 c1_i32_3155
  let v2389 : BitVec 32 := Scalar.addi v2387 v2388
  v2389.toNat
def k0_dev64 (d0 : Dev nD) : Nat :=
  let c0_i32_3212 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3211 : BitVec 32 := 16#32
  let v2426 : BitVec 32 := Scalar.muli v2 c16_i32_3211
  let v2427 : BitVec 32 := Scalar.addi c0_i32_3212 v2426
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v11 : BitVec 32 := Scalar.addi v5 c1_i32_3
  let c4_i32_4 : BitVec 32 := 4#32
  let v12 : BitVec 32 := Scalar.remsi v11 c4_i32_4
  let c4_i32_3213 : BitVec 32 := 4#32
  let v2428 : BitVec 32 := Scalar.muli v12 c4_i32_3213
  let v2429 : BitVec 32 := Scalar.addi v2427 v2428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3214 : BitVec 32 := 1#32
  let v2430 : BitVec 32 := Scalar.muli v8 c1_i32_3214
  let v2431 : BitVec 32 := Scalar.addi v2429 v2430
  v2431.toNat
def k0_dev65 (d0 : Dev nD) : Nat :=
  let c0_i32_3280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3279 : BitVec 32 := 16#32
  let v2482 : BitVec 32 := Scalar.muli v21 c16_i32_3279
  let v2483 : BitVec 32 := Scalar.addi c0_i32_3280 v2482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3281 : BitVec 32 := 4#32
  let v2484 : BitVec 32 := Scalar.muli v5 c4_i32_3281
  let v2485 : BitVec 32 := Scalar.addi v2483 v2484
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3282 : BitVec 32 := 1#32
  let v2486 : BitVec 32 := Scalar.muli v24 c1_i32_3282
  let v2487 : BitVec 32 := Scalar.addi v2485 v2486
  v2487.toNat
def k0_dev66 (d0 : Dev nD) : Nat :=
  let c0_i32_3344 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3343 : BitVec 32 := 16#32
  let v2522 : BitVec 32 := Scalar.muli v21 c16_i32_3343
  let v2523 : BitVec 32 := Scalar.addi c0_i32_3344 v2522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3345 : BitVec 32 := 4#32
  let v2524 : BitVec 32 := Scalar.muli v5 c4_i32_3345
  let v2525 : BitVec 32 := Scalar.addi v2523 v2524
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3346 : BitVec 32 := 1#32
  let v2526 : BitVec 32 := Scalar.muli v24 c1_i32_3346
  let v2527 : BitVec 32 := Scalar.addi v2525 v2526
  v2527.toNat
def k0_off14 (d0 : Dev nD) : Fin 2 → Nat :=
  let c1024 : Index := 1024#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2579 : Index := Scalar.indexCast v32
  ![1024, v2579.toNat]
def k0_off15 (d0 : Dev nD) : Fin 2 → Nat :=
  let c1152 : Index := 1152#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2608 : Index := Scalar.indexCast v32
  ![1152, v2608.toNat]
def k0_off16 (d0 : Dev nD) : Fin 2 → Nat :=
  let c1280 : Index := 1280#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2637 : Index := Scalar.indexCast v32
  ![1280, v2637.toNat]
def k0_off17 (d0 : Dev nD) : Fin 2 → Nat :=
  let c1408 : Index := 1408#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2666 : Index := Scalar.indexCast v32
  ![1408, v2666.toNat]
def k0_off18 (d0 : Dev nD) : Fin 2 → Nat :=
  let c1536 : Index := 1536#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2695 : Index := Scalar.indexCast v32
  ![1536, v2695.toNat]
def k0_off19 (d0 : Dev nD) : Fin 2 → Nat :=
  let c1664 : Index := 1664#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2724 : Index := Scalar.indexCast v32
  ![1664, v2724.toNat]
def k0_off20 (d0 : Dev nD) : Fin 2 → Nat :=
  let c1792 : Index := 1792#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2753 : Index := Scalar.indexCast v32
  ![1792, v2753.toNat]
def k0_off21 (d0 : Dev nD) : Fin 2 → Nat :=
  let c1920 : Index := 1920#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_18 : BitVec 32 := 4#32
  let v30 : BitVec 32 := Scalar.muli v2 c4_i32_18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v31 : BitVec 32 := Scalar.addi v30 v8
  let c256_i32 : BitVec 32 := 256#32
  let v32 : BitVec 32 := Scalar.muli v31 c256_i32
  let v2782 : Index := Scalar.indexCast v32
  ![1920, v2782.toNat]
def k0_off22 (d0 : Dev nD) (c8_i32_3694 : BitVec 32) : Fin 2 → Nat :=
  let c1024_i32_3742 : BitVec 32 := 1024#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v2786 : BitVec 32 := Scalar.addi v15 c8_i32_3694
  let c8_i32_3695 : BitVec 32 := 8#32
  let v2787 : BitVec 32 := Scalar.remsi v2786 c8_i32_3695
  let c4_i32_3696 : BitVec 32 := 4#32
  let v2788 : BitVec 1 := Scalar.cmpi .slt v2787 c4_i32_3696
  let c0_i32_3697 : BitVec 32 := 0#32
  let c1_i32_3698 : BitVec 32 := 1#32
  let v2789 : BitVec 32 := Scalar.select v2788 c0_i32_3697 c1_i32_3698
  let c4_i32_3701 : BitVec 32 := 4#32
  let v2793 : BitVec 32 := Scalar.muli v2789 c4_i32_3701
  let c4_i32_3699 : BitVec 32 := 4#32
  let v2790 : BitVec 1 := Scalar.cmpi .slt v2787 c4_i32_3699
  let c7_i32_3700 : BitVec 32 := 7#32
  let v2791 : BitVec 32 := Scalar.subi c7_i32_3700 v2787
  let v2792 : BitVec 32 := Scalar.select v2790 v2787 v2791
  let v2794 : BitVec 32 := Scalar.addi v2793 v2792
  let c256_i32_3702 : BitVec 32 := 256#32
  let v2795 : BitVec 32 := Scalar.muli v2794 c256_i32_3702
  ![1024, v2795.toNat]
def k0_off22_at (r : Fin 7) : BitVec 32 :=
  if r.val < 3 then
    if r.val < 1 then
      8#32
    else
      if r.val < 2 then
        0#32
      else
        7#32
  else
    if r.val < 5 then
      if r.val < 4 then
        1#32
      else
        6#32
    else
      if r.val < 6 then
        2#32
      else
        5#32
def k0_dev67 (d0 : Dev nD) : Nat :=
  let c0_i32_3739 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3738 : BitVec 32 := 16#32
  let v2826 : BitVec 32 := Scalar.muli v21 c16_i32_3738
  let v2827 : BitVec 32 := Scalar.addi c0_i32_3739 v2826
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3740 : BitVec 32 := 4#32
  let v2828 : BitVec 32 := Scalar.muli v5 c4_i32_3740
  let v2829 : BitVec 32 := Scalar.addi v2827 v2828
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3741 : BitVec 32 := 1#32
  let v2830 : BitVec 32 := Scalar.muli v24 c1_i32_3741
  let v2831 : BitVec 32 := Scalar.addi v2829 v2830
  v2831.toNat
def k0_dev68 (d0 : Dev nD) : Nat :=
  let c0_i32_3753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_3752 : BitVec 32 := 16#32
  let v2838 : BitVec 32 := Scalar.muli v26 c16_i32_3752
  let v2839 : BitVec 32 := Scalar.addi c0_i32_3753 v2838
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3754 : BitVec 32 := 4#32
  let v2840 : BitVec 32 := Scalar.muli v5 c4_i32_3754
  let v2841 : BitVec 32 := Scalar.addi v2839 v2840
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_3755 : BitVec 32 := 1#32
  let v2842 : BitVec 32 := Scalar.muli v29 c1_i32_3755
  let v2843 : BitVec 32 := Scalar.addi v2841 v2842
  v2843.toNat
def k0_off23 (d0 : Dev nD) (c8_i32_3703 : BitVec 32) : Fin 2 → Nat :=
  let c1536_i32 : BitVec 32 := 1536#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let v2796 : BitVec 32 := Scalar.addi v15 c8_i32_3703
  let c8_i32_3704 : BitVec 32 := 8#32
  let v2797 : BitVec 32 := Scalar.remsi v2796 c8_i32_3704
  let c4_i32_3705 : BitVec 32 := 4#32
  let v2798 : BitVec 1 := Scalar.cmpi .slt v2797 c4_i32_3705
  let c0_i32_3706 : BitVec 32 := 0#32
  let c1_i32_3707 : BitVec 32 := 1#32
  let v2799 : BitVec 32 := Scalar.select v2798 c0_i32_3706 c1_i32_3707
  let c4_i32_3710 : BitVec 32 := 4#32
  let v2803 : BitVec 32 := Scalar.muli v2799 c4_i32_3710
  let c4_i32_3708 : BitVec 32 := 4#32
  let v2800 : BitVec 1 := Scalar.cmpi .slt v2797 c4_i32_3708
  let c7_i32_3709 : BitVec 32 := 7#32
  let v2801 : BitVec 32 := Scalar.subi c7_i32_3709 v2797
  let v2802 : BitVec 32 := Scalar.select v2800 v2797 v2801
  let v2804 : BitVec 32 := Scalar.addi v2803 v2802
  let c256_i32_3711 : BitVec 32 := 256#32
  let v2805 : BitVec 32 := Scalar.muli v2804 c256_i32_3711
  ![1536, v2805.toNat]
def k0_off23_at (r : Fin 7) : BitVec 32 :=
  if r.val < 3 then
    if r.val < 1 then
      8#32
    else
      if r.val < 2 then
        0#32
      else
        7#32
  else
    if r.val < 5 then
      if r.val < 4 then
        1#32
      else
        6#32
    else
      if r.val < 6 then
        2#32
      else
        5#32
def k0_dev69 (d0 : Dev nD) : Nat :=
  let c0_i32_3767 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3766 : BitVec 32 := 16#32
  let v2850 : BitVec 32 := Scalar.muli v21 c16_i32_3766
  let v2851 : BitVec 32 := Scalar.addi c0_i32_3767 v2850
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3768 : BitVec 32 := 4#32
  let v2852 : BitVec 32 := Scalar.muli v5 c4_i32_3768
  let v2853 : BitVec 32 := Scalar.addi v2851 v2852
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3769 : BitVec 32 := 1#32
  let v2854 : BitVec 32 := Scalar.muli v24 c1_i32_3769
  let v2855 : BitVec 32 := Scalar.addi v2853 v2854
  v2855.toNat
def k0_dev70 (d0 : Dev nD) : Nat :=
  let c0_i32_3780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_3779 : BitVec 32 := 16#32
  let v2862 : BitVec 32 := Scalar.muli v26 c16_i32_3779
  let v2863 : BitVec 32 := Scalar.addi c0_i32_3780 v2862
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3781 : BitVec 32 := 4#32
  let v2864 : BitVec 32 := Scalar.muli v5 c4_i32_3781
  let v2865 : BitVec 32 := Scalar.addi v2863 v2864
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_3782 : BitVec 32 := 1#32
  let v2866 : BitVec 32 := Scalar.muli v29 c1_i32_3782
  let v2867 : BitVec 32 := Scalar.addi v2865 v2866
  v2867.toNat
def k0_dev71 (d0 : Dev nD) : Nat :=
  let c0_i32_3855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3854 : BitVec 32 := 16#32
  let v2928 : BitVec 32 := Scalar.muli v21 c16_i32_3854
  let v2929 : BitVec 32 := Scalar.addi c0_i32_3855 v2928
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3856 : BitVec 32 := 4#32
  let v2930 : BitVec 32 := Scalar.muli v5 c4_i32_3856
  let v2931 : BitVec 32 := Scalar.addi v2929 v2930
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3857 : BitVec 32 := 1#32
  let v2932 : BitVec 32 := Scalar.muli v24 c1_i32_3857
  let v2933 : BitVec 32 := Scalar.addi v2931 v2932
  v2933.toNat
def k0_dev72 (d0 : Dev nD) : Nat :=
  let c0_i32_3894 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_3893 : BitVec 32 := 16#32
  let v2954 : BitVec 32 := Scalar.muli v26 c16_i32_3893
  let v2955 : BitVec 32 := Scalar.addi c0_i32_3894 v2954
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3895 : BitVec 32 := 4#32
  let v2956 : BitVec 32 := Scalar.muli v5 c4_i32_3895
  let v2957 : BitVec 32 := Scalar.addi v2955 v2956
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_3896 : BitVec 32 := 1#32
  let v2958 : BitVec 32 := Scalar.muli v29 c1_i32_3896
  let v2959 : BitVec 32 := Scalar.addi v2957 v2958
  v2959.toNat
def k0_dev73 (d0 : Dev nD) : Nat :=
  let c0_i32_3933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_3932 : BitVec 32 := 16#32
  let v2980 : BitVec 32 := Scalar.muli v21 c16_i32_3932
  let v2981 : BitVec 32 := Scalar.addi c0_i32_3933 v2980
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3934 : BitVec 32 := 4#32
  let v2982 : BitVec 32 := Scalar.muli v5 c4_i32_3934
  let v2983 : BitVec 32 := Scalar.addi v2981 v2982
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_3935 : BitVec 32 := 1#32
  let v2984 : BitVec 32 := Scalar.muli v24 c1_i32_3935
  let v2985 : BitVec 32 := Scalar.addi v2983 v2984
  v2985.toNat
def k0_dev74 (d0 : Dev nD) : Nat :=
  let c0_i32_3972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_3971 : BitVec 32 := 16#32
  let v3006 : BitVec 32 := Scalar.muli v26 c16_i32_3971
  let v3007 : BitVec 32 := Scalar.addi c0_i32_3972 v3006
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3973 : BitVec 32 := 4#32
  let v3008 : BitVec 32 := Scalar.muli v5 c4_i32_3973
  let v3009 : BitVec 32 := Scalar.addi v3007 v3008
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_3974 : BitVec 32 := 1#32
  let v3010 : BitVec 32 := Scalar.muli v29 c1_i32_3974
  let v3011 : BitVec 32 := Scalar.addi v3009 v3010
  v3011.toNat
def k0_dev75 (d0 : Dev nD) : Nat :=
  let c0_i32_4047 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_4046 : BitVec 32 := 16#32
  let v3072 : BitVec 32 := Scalar.muli v21 c16_i32_4046
  let v3073 : BitVec 32 := Scalar.addi c0_i32_4047 v3072
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4048 : BitVec 32 := 4#32
  let v3074 : BitVec 32 := Scalar.muli v5 c4_i32_4048
  let v3075 : BitVec 32 := Scalar.addi v3073 v3074
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_4049 : BitVec 32 := 1#32
  let v3076 : BitVec 32 := Scalar.muli v24 c1_i32_4049
  let v3077 : BitVec 32 := Scalar.addi v3075 v3076
  v3077.toNat
def k0_dev76 (d0 : Dev nD) : Nat :=
  let c0_i32_4086 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_4085 : BitVec 32 := 16#32
  let v3098 : BitVec 32 := Scalar.muli v26 c16_i32_4085
  let v3099 : BitVec 32 := Scalar.addi c0_i32_4086 v3098
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4087 : BitVec 32 := 4#32
  let v3100 : BitVec 32 := Scalar.muli v5 c4_i32_4087
  let v3101 : BitVec 32 := Scalar.addi v3099 v3100
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_4088 : BitVec 32 := 1#32
  let v3102 : BitVec 32 := Scalar.muli v29 c1_i32_4088
  let v3103 : BitVec 32 := Scalar.addi v3101 v3102
  v3103.toNat
def k0_dev77 (d0 : Dev nD) : Nat :=
  let c0_i32_4125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_4124 : BitVec 32 := 16#32
  let v3124 : BitVec 32 := Scalar.muli v21 c16_i32_4124
  let v3125 : BitVec 32 := Scalar.addi c0_i32_4125 v3124
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4126 : BitVec 32 := 4#32
  let v3126 : BitVec 32 := Scalar.muli v5 c4_i32_4126
  let v3127 : BitVec 32 := Scalar.addi v3125 v3126
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_4127 : BitVec 32 := 1#32
  let v3128 : BitVec 32 := Scalar.muli v24 c1_i32_4127
  let v3129 : BitVec 32 := Scalar.addi v3127 v3128
  v3129.toNat
def k0_dev78 (d0 : Dev nD) : Nat :=
  let c0_i32_4164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c7_i32_6 : BitVec 32 := 7#32
  let v18 : BitVec 32 := Scalar.addi v15 c7_i32_6
  let c8_i32_7 : BitVec 32 := 8#32
  let v19 : BitVec 32 := Scalar.remsi v18 c8_i32_7
  let c4_i32_13 : BitVec 32 := 4#32
  let v25 : BitVec 1 := Scalar.cmpi .slt v19 c4_i32_13
  let c0_i32_14 : BitVec 32 := 0#32
  let c1_i32_15 : BitVec 32 := 1#32
  let v26 : BitVec 32 := Scalar.select v25 c0_i32_14 c1_i32_15
  let c16_i32_4163 : BitVec 32 := 16#32
  let v3150 : BitVec 32 := Scalar.muli v26 c16_i32_4163
  let v3151 : BitVec 32 := Scalar.addi c0_i32_4164 v3150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4165 : BitVec 32 := 4#32
  let v3152 : BitVec 32 := Scalar.muli v5 c4_i32_4165
  let v3153 : BitVec 32 := Scalar.addi v3151 v3152
  let c4_i32_16 : BitVec 32 := 4#32
  let v27 : BitVec 1 := Scalar.cmpi .slt v19 c4_i32_16
  let c7_i32_17 : BitVec 32 := 7#32
  let v28 : BitVec 32 := Scalar.subi c7_i32_17 v19
  let v29 : BitVec 32 := Scalar.select v27 v19 v28
  let c1_i32_4166 : BitVec 32 := 1#32
  let v3154 : BitVec 32 := Scalar.muli v29 c1_i32_4166
  let v3155 : BitVec 32 := Scalar.addi v3153 v3154
  v3155.toNat
def k0_dev79 (d0 : Dev nD) : Nat :=
  let c0_i32_4285 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_4284 : BitVec 32 := 16#32
  let v3249 : BitVec 32 := Scalar.muli v21 c16_i32_4284
  let v3250 : BitVec 32 := Scalar.addi c0_i32_4285 v3249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4286 : BitVec 32 := 4#32
  let v3251 : BitVec 32 := Scalar.muli v5 c4_i32_4286
  let v3252 : BitVec 32 := Scalar.addi v3250 v3251
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_4287 : BitVec 32 := 1#32
  let v3253 : BitVec 32 := Scalar.muli v24 c1_i32_4287
  let v3254 : BitVec 32 := Scalar.addi v3252 v3253
  v3254.toNat
def k0_dev80 (d0 : Dev nD) : Nat :=
  let c0_i32_4349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v13 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v14 : BitVec 32 := Scalar.subi c7_i32 v8
  let v15 : BitVec 32 := Scalar.select v13 v8 v14
  let c1_i32_5 : BitVec 32 := 1#32
  let v16 : BitVec 32 := Scalar.addi v15 c1_i32_5
  let c8_i32 : BitVec 32 := 8#32
  let v17 : BitVec 32 := Scalar.remsi v16 c8_i32
  let c4_i32_8 : BitVec 32 := 4#32
  let v20 : BitVec 1 := Scalar.cmpi .slt v17 c4_i32_8
  let c0_i32_9 : BitVec 32 := 0#32
  let c1_i32_10 : BitVec 32 := 1#32
  let v21 : BitVec 32 := Scalar.select v20 c0_i32_9 c1_i32_10
  let c16_i32_4348 : BitVec 32 := 16#32
  let v3289 : BitVec 32 := Scalar.muli v21 c16_i32_4348
  let v3290 : BitVec 32 := Scalar.addi c0_i32_4349 v3289
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4350 : BitVec 32 := 4#32
  let v3291 : BitVec 32 := Scalar.muli v5 c4_i32_4350
  let v3292 : BitVec 32 := Scalar.addi v3290 v3291
  let c4_i32_11 : BitVec 32 := 4#32
  let v22 : BitVec 1 := Scalar.cmpi .slt v17 c4_i32_11
  let c7_i32_12 : BitVec 32 := 7#32
  let v23 : BitVec 32 := Scalar.subi c7_i32_12 v17
  let v24 : BitVec 32 := Scalar.select v22 v17 v23
  let c1_i32_4351 : BitVec 32 := 1#32
  let v3293 : BitVec 32 := Scalar.muli v24 c1_i32_4351
  let v3294 : BitVec 32 := Scalar.addi v3292 v3293
  v3294.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S2048 : Shape := ⟨1, ![2048]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Events.lean ====
/- The program of one device as a list of events. The printed body of the kernel is a straight line
   of some five hundred operations; each is one of fifteen kinds, and each kind is written here once,
   over the indices the Python loops run through. The list of events is then the Python source's own
   loops. -/
module

public import proofs.«01_k».proof.Proof.Gen.KernelIdeal.Skeleton
public import proofs.«01_k».proof.Proof.Gen.KernelIdeal.Points

@[expose] public section

noncomputable section

namespace Cert.Fused

open Idealize.ShloMosaic Idealize.SL.Sem Cert.KernelIdeal Cert.KernelIdeal.Gen

variable {F : FTy → Type} [FloatOps F]

/-- One operation of the kernel, or one load–compute–store group. -/
inductive Ev
  /-- start reading the hop-`h` tile of group `g` from `x` -/
  | load (g : Fin 2) (h : Fin 4)
  /-- wait for that tile -/
  | loadW (g : Fin 2) (h : Fin 4)
  /-- tell neighbour `i` that this device has entered -/
  | signal (i : Fin 4)
  /-- wait for the four neighbours -/
  | barrier
  /-- write piece `s` of the partial sum of hop `h` into the send buffer -/
  | stage (g : Fin 2) (h : Fin 3) (s : Fin 8)
  /-- send the piece to the right neighbour -/
  | rsStart (g : Fin 2) (h : Fin 3) (s : Fin 8)
  /-- wait for the left neighbour's piece -/
  | rsRecv (g : Fin 2) (h : Fin 3) (s : Fin 8)
  /-- wait for the own piece to have left -/
  | rsSent (g : Fin 2) (h : Fin 3) (s : Fin 8)
  /-- add the last partial sum and write the own block of `y` -/
  | finish (g : Fin 2) (s : Fin 8)
  /-- forward a block of `y` around the ring, `w` the second direction -/
  | agStart (g : Fin 2) (k : Fin 4) (w : Fin 2) (s : Fin 2)
  /-- wait for the block arriving at that step -/
  | agRecv (g : Fin 2) (k : Fin 4) (w : Fin 2) (s : Fin 2)
  /-- wait for the block sent at that step to have left -/
  | agSent (g : Fin 2) (k : Fin 4) (w : Fin 2) (s : Fin 2)
  /-- normalise 512 rows -/
  | norm (t : Fin 4)
  /-- start writing them out -/
  | store (t : Fin 4)
  /-- wait for the write out -/
  | storeW (t : Fin 4)
  deriving DecidableEq

/-! ## Where each operation's windows lie -/

/-- The column block a ring step moves: the second argument of the printed offset. -/
def agArg (k : Fin 4) (w : Fin 2) : BitVec 32 :=
  match w with
  | ⟨0, _⟩ => BitVec.ofNat 32 (8 - k.val)
  | ⟨_+1, _⟩ => BitVec.ofNat 32 k.val

/-- The slot, of two, that a hop's tile or a row tile's output uses. -/
abbrev sl (h : Fin 4) : Fin 2 := ⟨h.val % 2, Nat.mod_lt _ (by decide)⟩

/-- Where the hop-`h` tile of group `g` lies in the device's `x`. -/
def xOff (c : Dev nD) (g : Fin 2) (h : Fin 4) : Fin 3 → Nat :=
  match h with
  | ⟨0, _⟩ => k0_off1 c 3#32 (BitVec.ofNat 32 (1024 * g.val))
  | ⟨1, _⟩ => k0_off1 c 2#32 (BitVec.ofNat 32 (1024 * g.val))
  | ⟨2, _⟩ => k0_off1 c 1#32 (BitVec.ofNat 32 (1024 * g.val))
  | ⟨_+3, _⟩ => k0_off3 c (BitVec.ofNat 32 (1024 * g.val))

abbrev tileOff (g i : Fin 2) : Fin 4 → Nat := ![g.val, i.val, 0, 0]
abbrev tilePOff (g : Fin 2) (h : Fin 4) (s : Fin 8) : Fin 4 → Nat := ![g.val, (sl h).val, 128 * s.val, 0]
abbrev sendOff (g : Fin 2) (s : Fin 8) : Fin 3 → Nat := ![g.val, 128 * s.val, 0]
abbrev inOff (g : Fin 2) (h : Fin 3) (s : Fin 8) : Fin 4 → Nat := ![g.val, h.val, 128 * s.val, 0]
abbrev finOff (c : Dev nD) (g : Fin 2) (s : Fin 8) : Fin 2 → Nat := ![1024 * g.val + 128 * s.val, k0_off4 c 1]
abbrev agOff (c : Dev nD) (g : Fin 2) (k : Fin 4) (w s : Fin 2) : Fin 2 → Nat :=
  ![1024 * g.val + 512 * s.val, k0_off12 c (agArg k w) 1]
abbrev rowOff (t : Fin 4) : Fin 2 → Nat := ![512 * t.val, 0]
abbrev outOff (i : Fin 2) : Fin 3 → Nat := ![i.val, 0, 0]

theorem xOff_inb : ∀ (c : Dev nD) (g : Fin 2) (h : Fin 4), ∀ a, xOff c g h a + S1x1024x256.size a ≤ S1x8192x2048.size a := by
  decide +kernel
theorem tileOff_inb : ∀ (g i : Fin 2), ∀ a, tileOff g i a + S1x1x1024x256.size a ≤ S2x2x1024x256.size a := by
  decide +kernel
theorem tilePOff_inb : ∀ (g : Fin 2) (h : Fin 4) (s : Fin 8), ∀ a, tilePOff g h s a + S1x1x128x256.size a ≤ S2x2x1024x256.size a := by
  decide +kernel
theorem sendOff_inb : ∀ (g : Fin 2) (s : Fin 8), ∀ a, sendOff g s a + S1x128x256.size a ≤ S2x1024x256.size a := by
  decide +kernel
theorem inOff_inb : ∀ (g : Fin 2) (h : Fin 3) (s : Fin 8), ∀ a, inOff g h s a + S1x1x128x256.size a ≤ S2x3x1024x256.size a := by
  decide +kernel
theorem finOff_inb : ∀ (c : Dev nD) (g : Fin 2) (s : Fin 8), ∀ a, finOff c g s a + S128x256.size a ≤ S2048x2048.size a := by
  decide +kernel
theorem agOff_inb : ∀ (c : Dev nD) (g : Fin 2) (k : Fin 4) (w s : Fin 2), ∀ a, agOff c g k w s a + S512x256.size a ≤ S2048x2048.size a := by
  decide +kernel
theorem rowOff_inb : ∀ (t : Fin 4), ∀ a, rowOff t a + S512x2048.size a ≤ S2048x2048.size a := by
  decide +kernel
theorem outOff_inb : ∀ (i : Fin 2), ∀ a, outOff i a + S1x512x2048.size a ≤ S2x512x2048.size a := by
  decide +kernel

theorem pair_inb : ∀ (g i : Fin 2), ∀ a, ![g.val, i.val] a + S1x1.size a ≤ S2x2.size a := by decide +kernel
theorem one_inb : ∀ (i : Fin 2), ∀ a, ![i.val] a + S1.size a ≤ S2.size a := by decide +kernel
theorem rs_inb : ∀ (g : Fin 2) (h : Fin 3) (s : Fin 8), ∀ a, ![g.val, h.val, s.val] a + S1x1x1.size a ≤ S2x3x8.size a := by
  decide +kernel
theorem ag_inb : ∀ (g : Fin 2) (k : Fin 4) (w s : Fin 2), ∀ a, ![g.val, k.val, w.val, s.val] a + S1x1x1x1.size a ≤ S2x4x2x2.size a := by
  decide +kernel

theorem send_words : ∀ (g : Fin 2) (s : Fin 8),
    (Rect.unit (s := S2x1024x256) (sendOff g s) S1x128x256.size (sendOff_inb g s)).WholeWords (EltTy.packing .bf16) := by
  decide +kernel
theorem send_packed : ∀ (g : Fin 2) (s : Fin 8),
    (Rect.unit (s := S2x1024x256) (sendOff g s) S1x128x256.size (sendOff_inb g s)).PackedRows (EltTy.packing .bf16) := by
  decide +kernel
theorem in_words : ∀ (g : Fin 2) (h : Fin 3) (s : Fin 8),
    (Rect.unit (s := S2x3x1024x256) (inOff g h s) S1x1x128x256.size (inOff_inb g h s)).WholeWords (EltTy.packing .bf16) := by
  decide +kernel
theorem fin_packed : ∀ (c : Dev nD) (g : Fin 2) (s : Fin 8),
    (Rect.unit (s := S2048x2048) (finOff c g s) S128x256.size (finOff_inb c g s)).PackedRows (EltTy.packing .bf16) := by
  decide +kernel
theorem ag_words : ∀ (c : Dev nD) (g : Fin 2) (k : Fin 4) (w s : Fin 2),
    (Rect.unit (s := S2048x2048) (agOff c g k w s) S512x256.size (agOff_inb c g k w s)).WholeWords (EltTy.packing .bf16) := by
  decide +kernel

/-! ## The memrefs and semaphores -/

abbrev xM : Memref sig .tc .hbm S1x8192x2048 .f32 := Memref.whole main_arg0
abbrev outM : Memref sig .tc .hbm S2048x2048 .f32 := Memref.whole main_v1
abbrev sendM : Memref sig .tc .vmem S2x1024x256 .bf16 := Memref.whole cc0_scratch0
abbrev inM : Memref sig .tc .vmem S2x3x1024x256 .bf16 := Memref.whole cc0_scratch1
abbrev tileM : Memref sig .tc .vmem S2x2x1024x256 .f32 := Memref.whole cc0_scratch2
abbrev yM : Memref sig .tc .vmem S2048x2048 .bf16 := Memref.whole cc0_scratch3
abbrev stgM : Memref sig .tc .vmem S2x512x2048 .f32 := Memref.whole cc0_scratch4

abbrev xSrc (c : Dev nD) (g : Fin 2) (h : Fin 4) : Memref sig .tc .hbm S1024x256 .f32 :=
  (xM.slice (Rect.unit (s := S1x8192x2048) (xOff c g h) S1x1024x256.size (xOff_inb c g h)) (fun _ => rfl)).squeeze
    S1024x256 squeezes_S1x1024x256_S1024x256
abbrev tileT (g i : Fin 2) : Memref sig .tc .vmem S1024x256 .f32 :=
  (tileM.slice (Rect.unit (s := S2x2x1024x256) (tileOff g i) S1x1x1024x256.size (tileOff_inb g i)) (fun _ => rfl)).squeeze
    S1024x256 squeezes_S1x1x1024x256_S1024x256
abbrev sendT (g : Fin 2) (s : Fin 8) : Memref sig .tc .vmem S128x256 .bf16 :=
  (sendM.slice (Rect.unit (s := S2x1024x256) (sendOff g s) S1x128x256.size (sendOff_inb g s)) (fun _ => rfl)).squeeze
    S128x256 squeezes_S1x128x256_S128x256
abbrev inT (g : Fin 2) (h : Fin 3) (s : Fin 8) : Memref sig .tc .vmem S128x256 .bf16 :=
  (inM.slice (Rect.unit (s := S2x3x1024x256) (inOff g h s) S1x1x128x256.size (inOff_inb g h s)) (fun _ => rfl)).squeeze
    S128x256 squeezes_S1x1x128x256_S128x256
abbrev yT (c : Dev nD) (g : Fin 2) (k : Fin 4) (w s : Fin 2) : Memref sig .tc .vmem S512x256 .bf16 :=
  yM.slice (Rect.unit (s := S2048x2048) (agOff c g k w s) S512x256.size (agOff_inb c g k w s)) (fun _ => rfl)
abbrev stgT (i : Fin 2) : Memref sig .tc .vmem S512x2048 .f32 :=
  (stgM.slice (Rect.unit (s := S2x512x2048) (outOff i) S1x512x2048.size (outOff_inb i)) (fun _ => rfl)).squeeze
    S512x2048 squeezes_S1x512x2048_S512x2048
abbrev outT (t : Fin 4) : Memref sig .tc .hbm S512x2048 .f32 :=
  outM.slice (Rect.unit (s := S2048x2048) (rowOff t) S512x2048.size (rowOff_inb t)) (fun _ => rfl)

abbrev barSem : Fin sig.nSem := (SemArray.scalar (sig.barrier 0 rfl) : Sems sig S_).sem
abbrev barS : SemLoc sig := .reg barSem
abbrev ldS (g i : Fin 2) : DmaSem sig :=
  ((cc0_scratch5.slice (Rect.unit (s := S2x2) ![g.val, i.val] S1x1.size (pair_inb g i))).squeeze S_ squeezes_S1x1_S_).sem
abbrev stS (i : Fin 2) : DmaSem sig :=
  ((cc0_scratch6.slice (Rect.unit (s := S2) ![i.val] S1.size (one_inb i))).squeeze S_ squeezes_S1_S_).sem
abbrev rsSS (g : Fin 2) (h : Fin 3) (s : Fin 8) : DmaSem sig :=
  ((cc0_scratch7.slice (Rect.unit (s := S2x3x8) ![g.val, h.val, s.val] S1x1x1.size (rs_inb g h s))).squeeze S_ squeezes_S1x1x1_S_).sem
abbrev rsRS (g : Fin 2) (h : Fin 3) (s : Fin 8) : DmaSem sig :=
  ((cc0_scratch8.slice (Rect.unit (s := S2x3x8) ![g.val, h.val, s.val] S1x1x1.size (rs_inb g h s))).squeeze S_ squeezes_S1x1x1_S_).sem
abbrev agSS (g : Fin 2) (k : Fin 4) (w s : Fin 2) : DmaSem sig :=
  ((cc0_scratch9.slice (Rect.unit (s := S2x4x2x2) ![g.val, k.val, w.val, s.val] S1x1x1x1.size (ag_inb g k w s))).squeeze S_ squeezes_S1x1x1x1_S_).sem
abbrev agRS (g : Fin 2) (k : Fin 4) (w s : Fin 2) : DmaSem sig :=
  ((cc0_scratch10.slice (Rect.unit (s := S2x4x2x2) ![g.val, k.val, w.val, s.val] S1x1x1x1.size (ag_inb g k w s))).squeeze S_ squeezes_S1x1x1x1_S_).sem

/-! ## The neighbours -/

/-- The device the body signals `i`-th at the barrier. -/
def nbr (c : Dev nD) (i : Fin 4) : Dev nD :=
  match i with
  | ⟨0, _⟩ => ⟨k0_dev1 c, k0_dev1_lt c⟩
  | ⟨1, _⟩ => ⟨k0_dev2 c, k0_dev2_lt c⟩
  | ⟨2, _⟩ => ⟨k0_dev3 c, k0_dev3_lt c⟩
  | ⟨_+3, _⟩ => ⟨k0_dev4 c, k0_dev4_lt c⟩

/-- The right neighbour on the `y` ring, where partial sums go. -/
abbrev right (c : Dev nD) : Dev nD := ⟨k0_dev5 c, k0_dev5_lt c⟩

/-- The neighbour on the eight-device ring a block goes to, by direction. -/
def ringTo (c : Dev nD) (w : Fin 2) : Dev nD :=
  match w with
  | ⟨0, _⟩ => ⟨k0_dev29 c, k0_dev29_lt c⟩
  | ⟨_+1, _⟩ => ⟨k0_dev30 c, k0_dev30_lt c⟩

/-! ## The operation of each event -/

abbrev TcE (F : FTy → Type) := TpuEff nD τ sig (Elt F) Λ₀ .tc

/-- The operation of an event on device `c`, before the rest `K`; `gm` is the staged `gamma`. -/
def step (c : Dev nD) (gm : Memref sig .tc .vmem S2048 .f32) : Ev → Prog (TcE F) PUnit → Prog (TcE F) PUnit
  | .load g h, K =>
    .op (.enqueueDma (xSrc c g h) (.here (tileT g (sl h))) (.dma (ldS g (sl h))) ((View.wordExact_bits rfl).reshape _ _)
      ((View.wordExact_bits rfl).reshape _ _) ⟨Or.inl rfl, trivial⟩) fun _ => K
  | .loadW g h, K =>
    .op (.waitDma2 (ldS g (sl h)) (xSrc c g h) (tileT g (sl h)) ((View.wordExact_bits rfl).reshape _ _)
      ((View.wordExact_bits rfl).reshape _ _)) fun _ => K
  | .signal i, K =>
    (semSignalWord (nbr c i) barSem 1#32).bind fun _ => K
  | .barrier, K => (semWaitWord barSem 4#32).bind fun _ => K
  | .stage g h s, K =>
    let st : FVec F S1x128x256 .bf16 → Prog (TcE F) PUnit := fun v =>
      .op (.load sendM (Rect.unit (s := S2x1024x256) (sendOff g s) S1x128x256.size (sendOff_inb g s)).toLoadRect
        (View.loadsAt_vmem h_S1x128x256)) fun _ =>
      .op (.store sendM (Rect.unit (s := S2x1024x256) (sendOff g s) S1x128x256.size (sendOff_inb g s)) v Finset.univ
        (View.stores_vmem h_S1x128x256 ((Memref.isWhole_whole _).storeExact_slice rfl _ (send_packed g s)) (fun _ => rfl)) (.inl rfl)) fun _ => K
    match h with
    | ⟨0, _⟩ =>
      .op (.load tileM (Rect.unit (s := S2x2x1024x256) (tilePOff g 0 s) S1x1x128x256.size (tilePOff_inb g 0 s)).toLoadRect
        (View.loadsAt_vmem h_S1x1x128x256)) fun a => st (k0_pay3 a)
    | ⟨j+1, hj⟩ =>
      .op (.load inM (Rect.unit (s := S2x3x1024x256) (inOff g ⟨j, by omega⟩ s) S1x1x128x256.size (inOff_inb g ⟨j, by omega⟩ s)).toLoadRect
        (View.loadsAt_vmem h_S1x1x128x256)) fun a =>
      .op (.load tileM (Rect.unit (s := S2x2x1024x256) (tilePOff g ⟨j+1, by omega⟩ s) S1x1x128x256.size (tilePOff_inb g ⟨j+1, by omega⟩ s)).toLoadRect
        (View.loadsAt_vmem h_S1x1x128x256)) fun b => st (k0_pay16 a b)
  | .rsStart g h s, K =>
    .op (.enqueueDma (sendT g s) (.remote (Dev.tc (right c)) (inT g h s) (.dma (rsSS g h s))) (.dma (rsRS g h s))
      (((Memref.isWhole_whole _).wordExact_slice rfl _ (send_words g s)).reshape _ _)
      (((Memref.isWhole_whole _).wordExact_slice rfl _ (in_words g h s)).reshape _ _) ⟨⟨rfl, Or.inl rfl⟩, trivial⟩) fun _ => K
  | .rsRecv g h s, K =>
    .op (.waitDma2 (rsRS g h s) (sendT g s) (inT g h s)
      (((Memref.isWhole_whole _).wordExact_slice rfl _ (send_words g s)).reshape _ _)
      (((Memref.isWhole_whole _).wordExact_slice rfl _ (in_words g h s)).reshape _ _)) fun _ => K
  | .rsSent g h s, K =>
    .op (.waitDma2 (rsSS g h s) (inT g h s) (sendT g s)
      (((Memref.isWhole_whole _).wordExact_slice rfl _ (in_words g h s)).reshape _ _)
      (((Memref.isWhole_whole _).wordExact_slice rfl _ (send_words g s)).reshape _ _)) fun _ => K
  | .finish g s, K =>
    .op (.load inM (Rect.unit (s := S2x3x1024x256) (inOff g 2 s) S1x1x128x256.size (inOff_inb g 2 s)).toLoadRect
      (View.loadsAt_vmem h_S1x1x128x256)) fun a =>
    .op (.load tileM (Rect.unit (s := S2x2x1024x256) (tilePOff g 3 s) S1x1x128x256.size (tilePOff_inb g 3 s)).toLoadRect
      (View.loadsAt_vmem h_S1x1x128x256)) fun b =>
    .op (.load yM (Rect.unit (s := S2048x2048) (finOff c g s) S128x256.size (finOff_inb c g s)).toLoadRect
      (View.loadsAt_vmem h_S128x256)) fun _ =>
    .op (.store yM (Rect.unit (s := S2048x2048) (finOff c g s) S128x256.size (finOff_inb c g s)) (k0_pay30 a b) Finset.univ
      (View.stores_vmem h_S128x256 ((Memref.isWhole_whole _).storeExact_slice rfl _ (fin_packed c g s)) (fun _ => rfl)) (.inl rfl)) fun _ => K
  | .agStart g k w s, K =>
    .op (.enqueueDma (yT c g k w s) (.remote (Dev.tc (ringTo c w)) (yT c g k w s) (.dma (agSS g k w s))) (.dma (agRS g k w s))
      ((Memref.isWhole_whole _).wordExact_slice rfl _ (ag_words c g k w s))
      ((Memref.isWhole_whole _).wordExact_slice rfl _ (ag_words c g k w s)) ⟨⟨rfl, Or.inl rfl⟩, trivial⟩) fun _ => K
  | .agRecv g k w s, K =>
    .op (.waitDma2 (agRS g k w s) (yT c g k w s) (yT c g k w s)
      ((Memref.isWhole_whole _).wordExact_slice rfl _ (ag_words c g k w s))
      ((Memref.isWhole_whole _).wordExact_slice rfl _ (ag_words c g k w s))) fun _ => K
  | .agSent g k w s, K =>
    .op (.waitDma2 (agSS g k w s) (yT c g k w s) (yT c g k w s)
      ((Memref.isWhole_whole _).wordExact_slice rfl _ (ag_words c g k w s))
      ((Memref.isWhole_whole _).wordExact_slice rfl _ (ag_words c g k w s))) fun _ => K
  | .norm t, K =>
    .op (.load yM (Rect.unit (s := S2048x2048) (rowOff t) S512x2048.size (rowOff_inb t)).toLoadRect
      (View.loadsAt_vmem h_S512x2048)) fun a =>
    .op (.load gm (Rect.unit (s := S2048) ![0] S2048.size inb_S2048_S2048_0).toLoadRect
      (View.loadsAt_vmem h_S2048)) fun b =>
    .op (.load stgM (Rect.unit (s := S2x512x2048) (outOff (sl t)) S1x512x2048.size (outOff_inb _)).toLoadRect
      (View.loadsAt_vmem h_S1x512x2048)) fun _ =>
    .op (.store stgM (Rect.unit (s := S2x512x2048) (outOff (sl t)) S1x512x2048.size (outOff_inb _)) (k0_pay80 a b) Finset.univ
      (View.stores_vmem_bits_univ h_S1x512x2048 rfl) (.inl rfl)) fun _ => K
  | .store t, K =>
    .op (.enqueueDma (stgT (sl t)) (.here (outT t)) (.dma (stS (sl t))) ((View.wordExact_bits rfl).reshape _ _)
      (View.wordExact_bits rfl) ⟨Or.inl rfl, trivial⟩) fun _ => K
  | .storeW t, K =>
    .op (.waitDma2 (stS (sl t)) (stgT (sl t)) (outT 0) ((View.wordExact_bits rfl).reshape _ _) (View.wordExact_bits rfl)) fun _ => K

/-- The program of a list of events. -/
def run (c : Dev nD) (gm : Memref sig .tc .vmem S2048 .f32) : List Ev → Prog (TcE F) PUnit
  | [] => .ret ⟨⟩
  | e :: l => step c gm e (run c gm l)

/-! ## The list of events: the loops of the source -/

/-- Piece `s` of hop `h`. -/
def hopPiece (g : Fin 2) (h : Fin 3) (s : Fin 8) : List Ev :=
  (match h with
    | ⟨0, _⟩ => []
    | ⟨j+1, hj⟩ => [.rsRecv g ⟨j, by omega⟩ s, .rsSent g ⟨j, by omega⟩ s]) ++ [.stage g h s, .rsStart g h s]

/-- One hop of the reduction around the `y` ring. -/
def hop (g : Fin 2) (h : Fin 3) : List Ev :=
  .loadW g ⟨h.val, by omega⟩ :: ([0, 1, 2, 3, 4, 5, 6, 7].flatMap (hopPiece g h)) ++ [.load g ⟨h.val + 1, by omega⟩]

/-- The last addition. -/
def finishAll (g : Fin 2) : List Ev :=
  .loadW g 3 :: [0, 1, 2, 3, 4, 5, 6, 7].flatMap fun s => [.rsRecv g 2 s, .rsSent g 2 s, .finish g s]

/-- The wait of ring step `k` before the next one. -/
def agPrev (g : Fin 2) (k : Fin 4) (w s : Fin 2) : List Ev :=
  match k with
  | ⟨0, _⟩ => []
  | ⟨j+1, hj⟩ => [.agRecv g ⟨j, by omega⟩ w s, .agSent g ⟨j, by omega⟩ w s]

/-- The ring step `k`, both directions. -/
def agStage (g : Fin 2) (k : Fin 4) : List Ev :=
  [0, 1].flatMap fun s =>
    agPrev g k 0 s ++ [.agStart g k 0 s] ++ agPrev g k 1 s ++
      (match k with
        | ⟨3, _⟩ => []
        | k => [.agStart g k 1 s])

def agLast (g : Fin 2) : List Ev := [0, 1].flatMap fun s => [.agRecv g 3 0 s, .agSent g 3 0 s]

def normAll (t : Fin 4) : List Ev :=
  (match t with
    | ⟨0, _⟩ => []
    | ⟨1, _⟩ => []
    | ⟨j+2, hj⟩ => [.storeW ⟨j, by omega⟩]) ++ [.norm t, .store t]

/-- What a device does before the reduction: two reads started, the barrier. -/
def evsPre : List Ev :=
  [.load 0 0, .load 1 0, .signal 0, .signal 1, .signal 2, .signal 3, .barrier]

/-- Everything after it. -/
def evsMain : List Ev :=
  hop 0 0 ++ hop 0 1 ++ hop 0 2 ++ finishAll 0 ++
    agStage 0 0 ++ hop 1 0 ++ agStage 0 1 ++ hop 1 1 ++ agStage 0 2 ++ hop 1 2 ++ agStage 0 3 ++ finishAll 1 ++
    agStage 1 0 ++ agStage 1 1 ++ agStage 1 2 ++ agLast 0 ++ normAll 0 ++ agStage 1 3 ++ normAll 1 ++
    agLast 1 ++ normAll 2 ++ normAll 3 ++ [.storeW 2, .storeW 3]

def evs : List Ev := evsPre ++ evsMain

end Cert.Fused

end
-- ==== Proof.Tokens.lean ====
/- What a device holds between two operations, as a finite set of named parts, and the check that
   the list of events never uses a part it does not hold. The check is a computation over one binary
   number: bit `code a` says that part `a` is held. -/
module

public import proofs.«01_k».proof.Proof.Events
public import Mathlib.Tactic.DeriveFintype

@[expose] public section

namespace Cert.Fused

/-- The semaphores of one device that the kernel uses. -/
inductive CK
  | bar
  | ld (g i : Fin 2)
  | st (i : Fin 2)
  | rsS (g : Fin 2) (h : Fin 3) (s : Fin 8)
  | rsR (g : Fin 2) (h : Fin 3) (s : Fin 8)
  | agS (g : Fin 2) (k : Fin 4) (w s : Fin 2)
  | agR (g : Fin 2) (k : Fin 4) (w s : Fin 2)
  deriving DecidableEq, Fintype

/-- Its place in the numbering of the launch: the barrier at 0, every other at its own number. -/
def CK.num : CK → ℕ
  | .bar => 0
  | .ld g i => 1 + 2 * g.val + i.val
  | .st i => 5 + i.val
  | .rsS g h s => 7 + 24 * g.val + 8 * h.val + s.val
  | .rsR g h s => 55 + 24 * g.val + 8 * h.val + s.val
  | .agS g k w s => 103 + 16 * g.val + 4 * k.val + 2 * w.val + s.val
  | .agR g k w s => 135 + 16 * g.val + 4 * k.val + 2 * w.val + s.val

theorem CK.num_lt : ∀ k : CK, k.num < 167 := by decide +kernel

/-- The parts. -/
inductive Atom
  /-- the position of the waiter of cell `k` at round `r` -/
  | pos (k : CK) (r : Fin 3)
  /-- the right to signal, copy or send -/
  | tokSig (i : Fin 4)
  | tokLd (g : Fin 2) (h : Fin 4)
  | tokSt (t : Fin 4)
  | tokRs (g : Fin 2) (h : Fin 3) (s : Fin 8)
  | tokAg (g : Fin 2) (k : Fin 4) (w s : Fin 2)
  /-- the credit a wait consumes -/
  | crBar
  | crLd (g : Fin 2) (h : Fin 4)
  | crSt (t : Fin 4)
  | crRsS (g : Fin 2) (h : Fin 3) (s : Fin 8)
  | crRsR (g : Fin 2) (h : Fin 3) (s : Fin 8)
  | crAgS (g : Fin 2) (k : Fin 4) (w s : Fin 2)
  | crAgR (g : Fin 2) (k : Fin 4) (w s : Fin 2)
  /-- a share of the tile of `x` -/
  | x (g : Fin 2) (h : Fin 4)
  /-- a tile slot, at anything; at the tile of hop `h` -/
  | tileAny (g i : Fin 2)
  | tile (g : Fin 2) (h : Fin 4)
  /-- a piece of the send buffer, at anything; at the partial sum of hop `h` -/
  | sendAny (g : Fin 2) (s : Fin 8)
  | send (g : Fin 2) (h : Fin 3) (s : Fin 8)
  /-- a piece of the landing buffer, at anything; the right neighbour's, at anything; at what landed -/
  | inAny (g : Fin 2) (h : Fin 3) (s : Fin 8)
  | inDst (g : Fin 2) (h : Fin 3) (s : Fin 8)
  | inn (g : Fin 2) (h : Fin 3) (s : Fin 8)
  /-- a piece of `y` at ring distance `j`, at anything; a neighbour's; at the sums -/
  | yAny (g s : Fin 2) (j : Fin 8)
  | yDst (g : Fin 2) (k : Fin 4) (w s : Fin 2)
  | yHas (g s : Fin 2) (j : Fin 8)
  /-- the own piece of `y` with its first `i` quarters at the sums; a half share of it, all at the sums -/
  | yPart (g s : Fin 2) (i : Fin 4)
  | yHalf (g s w : Fin 2)
  /-- rows of the result, at anything; at the result -/
  | outAny (t : Fin 4)
  | out (t : Fin 4)
  /-- an output slot, at anything; at normalised rows -/
  | stgAny (i : Fin 2)
  | stg (t : Fin 4)
  /-- `gamma` -/
  | gam
  /-- never held -/
  | void
  deriving DecidableEq

/-- A number per part; the last five bits tell the kind. -/
def Atom.code : Atom → ℕ
  | .pos k r => 32 * (3 * k.num + r.val)
  | .tokSig i => 32 * i.val + 1
  | .tokLd g h => 32 * (4 * g.val + h.val) + 2
  | .tokSt t => 32 * t.val + 3
  | .tokRs g h s => 32 * (24 * g.val + 8 * h.val + s.val) + 4
  | .tokAg g k w s => 32 * (16 * g.val + 4 * k.val + 2 * w.val + s.val) + 5
  | .crBar => 6
  | .crLd g h => 32 * (4 * g.val + h.val) + 7
  | .crSt t => 32 * t.val + 8
  | .crRsS g h s => 32 * (24 * g.val + 8 * h.val + s.val) + 9
  | .crRsR g h s => 32 * (24 * g.val + 8 * h.val + s.val) + 10
  | .crAgS g k w s => 32 * (16 * g.val + 4 * k.val + 2 * w.val + s.val) + 11
  | .crAgR g k w s => 32 * (16 * g.val + 4 * k.val + 2 * w.val + s.val) + 12
  | .x g h => 32 * (4 * g.val + h.val) + 13
  | .tileAny g i => 32 * (2 * g.val + i.val) + 14
  | .tile g h => 32 * (4 * g.val + h.val) + 15
  | .sendAny g s => 32 * (8 * g.val + s.val) + 16
  | .send g h s => 32 * (24 * g.val + 8 * h.val + s.val) + 17
  | .inAny g h s => 32 * (24 * g.val + 8 * h.val + s.val) + 18
  | .inDst g h s => 32 * (24 * g.val + 8 * h.val + s.val) + 19
  | .inn g h s => 32 * (24 * g.val + 8 * h.val + s.val) + 20
  | .yAny g s j => 32 * (16 * g.val + 8 * s.val + j.val) + 21
  | .yDst g k w s => 32 * (16 * g.val + 4 * k.val + 2 * w.val + s.val) + 22
  | .yHas g s j => 32 * (16 * g.val + 8 * s.val + j.val) + 23
  | .yPart g s i => 32 * (8 * g.val + 4 * s.val + i.val) + 24
  | .yHalf g s w => 32 * (4 * g.val + 2 * s.val + w.val) + 25
  | .outAny t => 32 * t.val + 26
  | .out t => 32 * t.val + 27
  | .stgAny i => 32 * i.val + 28
  | .stg t => 32 * t.val + 29
  | .gam => 30
  | .void => 31

/-- The semaphore with a given number. -/
def CK.ofNum (n : ℕ) : CK :=
  if n < 1 then .bar
  else if n < 5 then .ld ⟨(n - 1) / 2 % 2, Nat.mod_lt _ (by decide)⟩ ⟨(n - 1) % 2, Nat.mod_lt _ (by decide)⟩
  else if n < 7 then .st ⟨(n - 5) % 2, Nat.mod_lt _ (by decide)⟩
  else if n < 55 then .rsS ⟨(n - 7) / 24 % 2, Nat.mod_lt _ (by decide)⟩ ⟨(n - 7) / 8 % 3, Nat.mod_lt _ (by decide)⟩ ⟨(n - 7) % 8, Nat.mod_lt _ (by decide)⟩
  else if n < 103 then .rsR ⟨(n - 55) / 24 % 2, Nat.mod_lt _ (by decide)⟩ ⟨(n - 55) / 8 % 3, Nat.mod_lt _ (by decide)⟩ ⟨(n - 55) % 8, Nat.mod_lt _ (by decide)⟩
  else if n < 135 then .agS ⟨(n - 103) / 16 % 2, Nat.mod_lt _ (by decide)⟩ ⟨(n - 103) / 4 % 4, Nat.mod_lt _ (by decide)⟩
    ⟨(n - 103) / 2 % 2, Nat.mod_lt _ (by decide)⟩ ⟨(n - 103) % 2, Nat.mod_lt _ (by decide)⟩
  else .agR ⟨(n - 135) / 16 % 2, Nat.mod_lt _ (by decide)⟩ ⟨(n - 135) / 4 % 4, Nat.mod_lt _ (by decide)⟩
    ⟨(n - 135) / 2 % 2, Nat.mod_lt _ (by decide)⟩ ⟨(n - 135) % 2, Nat.mod_lt _ (by decide)⟩

theorem CK.ofNum_num : ∀ k : CK, CK.ofNum k.num = k := by decide +kernel

theorem CK.num_inj {k k' : CK} (h : k.num = k'.num) : k = k' := by
  rw [← CK.ofNum_num k, h, CK.ofNum_num]

theorem CK.num_ofNum : ∀ n : Fin 167, (CK.ofNum n.val).num = n.val := by decide +kernel

/-- The part with a given number. -/
def Atom.ofCode (n : ℕ) : Atom :=
  let q := n / 32
  let m (d k : ℕ) (hk : 0 < k) : Fin k := ⟨q / d % k, Nat.mod_lt _ hk⟩
  match n % 32 with
  | 0 => .pos (CK.ofNum (q / 3)) (m 1 3 (by decide))
  | 1 => .tokSig (m 1 4 (by decide))
  | 2 => .tokLd (m 4 2 (by decide)) (m 1 4 (by decide))
  | 3 => .tokSt (m 1 4 (by decide))
  | 4 => .tokRs (m 24 2 (by decide)) (m 8 3 (by decide)) (m 1 8 (by decide))
  | 5 => .tokAg (m 16 2 (by decide)) (m 4 4 (by decide)) (m 2 2 (by decide)) (m 1 2 (by decide))
  | 6 => .crBar
  | 7 => .crLd (m 4 2 (by decide)) (m 1 4 (by decide))
  | 8 => .crSt (m 1 4 (by decide))
  | 9 => .crRsS (m 24 2 (by decide)) (m 8 3 (by decide)) (m 1 8 (by decide))
  | 10 => .crRsR (m 24 2 (by decide)) (m 8 3 (by decide)) (m 1 8 (by decide))
  | 11 => .crAgS (m 16 2 (by decide)) (m 4 4 (by decide)) (m 2 2 (by decide)) (m 1 2 (by decide))
  | 12 => .crAgR (m 16 2 (by decide)) (m 4 4 (by decide)) (m 2 2 (by decide)) (m 1 2 (by decide))
  | 13 => .x (m 4 2 (by decide)) (m 1 4 (by decide))
  | 14 => .tileAny (m 2 2 (by decide)) (m 1 2 (by decide))
  | 15 => .tile (m 4 2 (by decide)) (m 1 4 (by decide))
  | 16 => .sendAny (m 8 2 (by decide)) (m 1 8 (by decide))
  | 17 => .send (m 24 2 (by decide)) (m 8 3 (by decide)) (m 1 8 (by decide))
  | 18 => .inAny (m 24 2 (by decide)) (m 8 3 (by decide)) (m 1 8 (by decide))
  | 19 => .inDst (m 24 2 (by decide)) (m 8 3 (by decide)) (m 1 8 (by decide))
  | 20 => .inn (m 24 2 (by decide)) (m 8 3 (by decide)) (m 1 8 (by decide))
  | 21 => .yAny (m 16 2 (by decide)) (m 8 2 (by decide)) (m 1 8 (by decide))
  | 22 => .yDst (m 16 2 (by decide)) (m 4 4 (by decide)) (m 2 2 (by decide)) (m 1 2 (by decide))
  | 23 => .yHas (m 16 2 (by decide)) (m 8 2 (by decide)) (m 1 8 (by decide))
  | 24 => .yPart (m 8 2 (by decide)) (m 4 2 (by decide)) (m 1 4 (by decide))
  | 25 => .yHalf (m 4 2 (by decide)) (m 2 2 (by decide)) (m 1 2 (by decide))
  | 26 => .outAny (m 1 4 (by decide))
  | 27 => .out (m 1 4 (by decide))
  | 28 => .stgAny (m 1 2 (by decide))
  | 29 => .stg (m 1 4 (by decide))
  | 30 => .gam
  | _ => .void

theorem Atom.ofCode_code (a : Atom) : Atom.ofCode a.code = a := by
  cases a <;> first
    | rfl
    | (rename_i a; revert a; decide +kernel)
    | (rename_i a b; revert a b; decide +kernel)
    | (rename_i a b c; revert a b c; decide +kernel)
    | (rename_i a b c d; revert a b c d; decide +kernel)

theorem Atom.code_inj {a b : Atom} (h : a.code = b.code) : a = b := by
  rw [← Atom.ofCode_code a, h, Atom.ofCode_code]

theorem Atom.code_lt (a : Atom) : a.code < 20000 := by
  have hk := CK.num_lt
  cases a <;> simp only [Atom.code] <;> first | omega | (rename_i k r; have := hk k; omega)

noncomputable instance : Fintype Atom :=
  Fintype.ofInjective (fun a : Atom => (⟨a.code, a.code_lt⟩ : Fin 20000)) fun _ _ h => Atom.code_inj (Fin.ext_iff.mp h)

/-! ## What each event takes and leaves -/

/-- The ring distance of the block sent at step `k`, and of the one received then. -/
def jSend (k : Fin 4) (w : Fin 2) : Fin 8 :=
  match w with
  | ⟨0, _⟩ => ⟨(8 - k.val) % 8, Nat.mod_lt _ (by decide)⟩
  | ⟨_+1, _⟩ => ⟨k.val, by omega⟩
def jRecv (k : Fin 4) (w : Fin 2) : Fin 8 :=
  match w with
  | ⟨0, _⟩ => ⟨7 - k.val, by omega⟩
  | ⟨_+1, _⟩ => ⟨k.val + 1, by omega⟩

/-- The indices of the pieces of the landing buffer. -/
def rsIdx : List (Fin 2 × Fin 3 × Fin 8) :=
  [0, 1].flatMap fun g => [0, 1, 2].flatMap fun h => [0, 1, 2, 3, 4, 5, 6, 7].map fun s => (g, h, s)
/-- The indices of the ring steps in a direction. -/
def agIdx (w : Fin 2) : List (Fin 2 × Fin 4 × Fin 2) :=
  [0, 1].flatMap fun g => (if w = 0 then [0, 1, 2, 3] else [0, 1, 2]).flatMap fun k => [0, 1].map fun s => (g, k, s)

/-- What a signal hands over. -/
def handed (i : Fin 4) : List Atom :=
  match i with
  | ⟨0, _⟩ => rsIdx.map fun x => .inAny x.1 x.2.1 x.2.2
  | ⟨1, _⟩ => []
  | ⟨2, _⟩ => (agIdx 1).map fun x => .yAny x.1 x.2.2 (jRecv x.2.1 1)
  | ⟨_+3, _⟩ => (agIdx 0).map fun x => .yAny x.1 x.2.2 (jRecv x.2.1 0)

/-- What the barrier hands over. -/
def handedTo : List Atom :=
  (rsIdx.map fun x => .inDst x.1 x.2.1 x.2.2) ++ ((agIdx 1).map fun x => .yDst x.1 x.2.1 1 x.2.2) ++
    ((agIdx 0).map fun x => .yDst x.1 x.2.1 0 x.2.2)

/-- The source of a ring step. -/
def agSrc (g : Fin 2) (k : Fin 4) (w s : Fin 2) : Atom :=
  match k with
  | ⟨0, _⟩ => .yHalf g s w
  | ⟨j+1, hj⟩ => .yHas g s (jSend ⟨j+1, hj⟩ w)

abbrev rd2 (h : Fin 4) : Fin 3 := ⟨h.val / 2, by omega⟩
abbrev rd2' (h : Fin 4) : Fin 3 := ⟨h.val / 2 + 1, by omega⟩

/-- The parts of `y` that normalising rows reads. -/
def yRow (t : Fin 4) : List Atom :=
  let g : Fin 2 := ⟨t.val / 2, by omega⟩
  [.yHalf g (sl t) 0, .yHalf g (sl t) 1] ++ [1, 2, 3, 4, 5, 6, 7].map fun j => .yHas g (sl t) j

def Ev.need : Ev → List Atom
  | .load g h => [.x g h, (match h with | ⟨0, _⟩ => .tileAny g 0 | ⟨1, _⟩ => .tileAny g 1 | ⟨j+2, _⟩ => .tile g ⟨j, by omega⟩),
      .tokLd g h, .pos (.ld g (sl h)) (rd2 h)]
  | .loadW g h => [.crLd g h, .pos (.ld g (sl h)) (rd2 h)]
  | .signal i => .tokSig i :: handed i
  | .barrier => [.crBar, .pos .bar 0]
  | .stage g h s =>
    match h with
    | ⟨0, _⟩ => [.tile g 0, .sendAny g s]
    | ⟨j+1, hj⟩ => [.tile g ⟨j+1, by omega⟩, .send g ⟨j, by omega⟩ s, .inn g ⟨j, by omega⟩ s]
  | .rsStart g h s => [.send g h s, .inDst g h s, .tokRs g h s]
  | .rsRecv g h s => [.crRsR g h s, .pos (.rsR g h s) 0]
  | .rsSent g h s => [.crRsS g h s, .pos (.rsS g h s) 0]
  | .finish g s => [.inn g 2 s, .tile g 3, .yPart g ⟨s.val / 4, by omega⟩ ⟨s.val % 4, by omega⟩]
  | .agStart g k w s => [agSrc g k w s, .yDst g k w s, .tokAg g k w s]
  | .agRecv g k w s => [.crAgR g k w s, .pos (.agR g k w s) 0]
  | .agSent g k w s => [.crAgS g k w s, .pos (.agS g k w s) 0]
  | .norm t => .gam :: (match t with | ⟨0, _⟩ => .stgAny 0 | ⟨1, _⟩ => .stgAny 1 | ⟨j+2, _⟩ => .stg ⟨j, by omega⟩) :: yRow t
  | .store t => [.stg t, .outAny t, .tokSt t, .pos (.st (sl t)) (rd2 t)]
  | .storeW t => [.crSt t, .pos (.st (sl t)) (rd2 t)]

def Ev.give : Ev → List Atom
  | .load g h => [.crLd g h, .pos (.ld g (sl h)) (rd2 h)]
  | .loadW g h => [.tile g h, .x g h, .pos (.ld g (sl h)) (rd2' h)]
  | .signal _ => []
  | .barrier => .pos .bar 1 :: handedTo
  | .stage g h s =>
    match h with
    | ⟨0, _⟩ => [.tile g 0, .send g 0 s]
    | ⟨j+1, hj⟩ => [.tile g ⟨j+1, by omega⟩, .send g ⟨j+1, hj⟩ s, .inn g ⟨j, by omega⟩ s]
  | .rsStart g h s => [.crRsS g h s]
  | .rsRecv g h s => [.inn g h s, .pos (.rsR g h s) 1]
  | .rsSent g h s => [.send g h s, .pos (.rsS g h s) 1]
  | .finish g s => [.inn g 2 s, .tile g 3] ++
      (if hs : s.val % 4 < 3 then [.yPart g ⟨s.val / 4, by omega⟩ ⟨s.val % 4 + 1, by omega⟩]
        else [.yHalf g ⟨s.val / 4, by omega⟩ 0, .yHalf g ⟨s.val / 4, by omega⟩ 1])
  | .agStart g k w s => [.crAgS g k w s]
  | .agRecv g k w s => [.yHas g s (jRecv k w), .pos (.agR g k w s) 1]
  | .agSent g k w s => [agSrc g k w s, .pos (.agS g k w s) 1]
  | .norm t => .gam :: .stg t :: yRow t
  | .store t => [.crSt t, .pos (.st (sl t)) (rd2 t)]
  | .storeW t => [.out t, .stg t, .pos (.st (sl t)) (rd2' t)]

/-! ## Levels: a send's place in the order of the program -/

/-- The level of the cell a semaphore waits on. -/
def CK.lvl : CK → ℕ
  | .bar => 1
  | .rsR g h _ => if g = 0 then 2 + h.val else 6 + 2 * h.val
  | .agR g k _ _ => if g = 0 then 5 + 2 * k.val else 12 + k.val
  | _ => 0

/-- The cell, on another device, that an event owes a payment; -/
def Ev.pays : Ev → Option CK
  | .signal _ => some .bar
  | .rsStart g h s => some (.rsR g h s)
  | .agStart g k w s => some (.agR g k w s)
  | _ => none

/-- the own cell it waits on. -/
def Ev.waits : Ev → Option CK
  | .loadW g h => some (.ld g (sl h))
  | .barrier => some .bar
  | .rsRecv g h s => some (.rsR g h s)
  | .rsSent g h s => some (.rsS g h s)
  | .agRecv g k w s => some (.agR g k w s)
  | .agSent g k w s => some (.agS g k w s)
  | .storeW t => some (.st (sl t))
  | _ => none

/-- Every payment still owed after a wait lies above the cell waited on. -/
def waitOk (e : Ev) (l : List Ev) : Bool :=
  match e.waits with
  | none => true
  | some k => l.all fun e' => match e'.pays with
    | none => true
    | some k' => Nat.blt k.lvl k'.lvl

/-! ## The check -/

/-- Take the parts of a list, one after another; -/
def takeAll : List Atom → ℕ → Option ℕ
  | [], M => some M
  | a :: l, M => bif M.testBit a.code then takeAll l (M ^^^ 2 ^ a.code) else none
/-- put them. -/
def putAll : List Atom → ℕ → Option ℕ
  | [], M => some M
  | a :: l, M => bif M.testBit a.code then none else putAll l (M ^^^ 2 ^ a.code)

/-- Run the list of events over the held parts. -/
def exec : List Ev → ℕ → Option ℕ
  | [], M => some M
  | e :: l, M => bif waitOk e l then (takeAll e.need M).bind fun M₁ => (putAll e.give M₁).bind fun M₂ => exec l M₂ else none

/-- The parts held at the start, by kind. -/
def tokIdx : List (Fin 2 × Fin 4 × Fin 2 × Fin 2) :=
  [0, 1].flatMap fun g => [0, 1, 2, 3].flatMap fun k => [0, 1].flatMap fun w => [0, 1].map fun s => (g, k, w, s)
def ckIdx : List CK := (List.range 167).map CK.ofNum
def ghIdx : List (Fin 2 × Fin 4) := [0, 1].flatMap fun g => [0, 1, 2, 3].map fun h => (g, h)
def gsIdx : List (Fin 2 × Fin 8) := [0, 1].flatMap fun g => [0, 1, 2, 3, 4, 5, 6, 7].map fun h => (g, h)
def ggIdx : List (Fin 2 × Fin 2) := [0, 1].flatMap fun g => [0, 1].map fun h => (g, h)
def yIdx : List (Fin 2 × Fin 2 × Fin 8) :=
  [0, 1].flatMap fun g => [0, 1].flatMap fun s => [0, 1, 2, 3, 4, 5, 6, 7].map fun j => (g, s, j)

def atomsStart : List Atom :=
  (ckIdx.map fun k => .pos k 0) ++
  ([0, 1, 2, 3].map .tokSig ++ (ghIdx.map fun x => .tokLd x.1 x.2) ++ [0, 1, 2, 3].map .tokSt ++ (rsIdx.map fun x => .tokRs x.1 x.2.1 x.2.2) ++
    ((agIdx 0).map fun x => .tokAg x.1 x.2.1 0 x.2.2) ++ ((agIdx 1).map fun x => .tokAg x.1 x.2.1 1 x.2.2)) ++
  (.crBar :: (rsIdx.map fun x => .crRsR x.1 x.2.1 x.2.2) ++
    ((agIdx 0).map fun x => .crAgR x.1 x.2.1 0 x.2.2) ++ ((agIdx 1).map fun x => .crAgR x.1 x.2.1 1 x.2.2)) ++
  ((ghIdx.map fun x => .x x.1 x.2) ++ (ggIdx.map fun x => .tileAny x.1 x.2) ++ (gsIdx.map fun x => .sendAny x.1 x.2) ++
    (rsIdx.map fun x => .inAny x.1 x.2.1 x.2.2) ++ (ggIdx.map fun x => .yPart x.1 x.2 0) ++
    ((agIdx 0).map fun x => .yAny x.1 x.2.2 (jRecv x.2.1 0)) ++ ((agIdx 1).map fun x => .yAny x.1 x.2.2 (jRecv x.2.1 1)) ++
    [0, 1, 2, 3].map .outAny ++ [0, 1].map .stgAny ++ [.gam])

end Cert.Fused
-- ==== Proof.Contents.lean ====
/- What every buffer holds at every stage: the contents as functions of the memory at launch. -/
module

public import proofs.«01_k».proof.Proof.Tokens
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Fused

open Idealize.ShloMosaic Idealize.SL.Sem Cert.KernelIdeal Cert.KernelIdeal.Gen
open Idealize.ShloMosaic.TcCoe

variable {F : FTy → Type} [FloatOps F]

/-! ## The neighbours -/

/-- The left neighbour on the `y` ring. -/
abbrev left (c : Dev nD) : Dev nD := nbr c 0

theorem left_right : ∀ c : Dev nD, left (right c) = c := by decide +kernel
theorem right_left : ∀ c : Dev nD, right (left c) = c := by decide +kernel
theorem nbr1 : ∀ c : Dev nD, nbr c 1 = right c := by decide +kernel
theorem nbr2 : ∀ c : Dev nD, nbr c 2 = ringTo c 0 := by decide +kernel
theorem nbr3 : ∀ c : Dev nD, nbr c 3 = ringTo c 1 := by decide +kernel
theorem ringTo_back : ∀ (c : Dev nD), ringTo (ringTo c 0) 1 = c ∧ ringTo (ringTo c 1) 0 = c := by decide +kernel

/-- The other direction. -/
abbrev opp (w : Fin 2) : Fin 2 := ⟨1 - w.val, by omega⟩
theorem ringTo_opp : ∀ (c : Dev nD) (w : Fin 2), ringTo (ringTo c w) (opp w) = c := by decide +kernel
theorem ringTo_opp' : ∀ (c : Dev nD) (w : Fin 2), ringTo (ringTo c (opp w)) w = c := by decide +kernel

/-- The device whose `i`-th signal this device receives. -/
def sgn (c : Dev nD) (i : Fin 4) : Dev nD :=
  match i with
  | ⟨0, _⟩ => right c
  | ⟨1, _⟩ => left c
  | ⟨2, _⟩ => ringTo c 1
  | ⟨_+3, _⟩ => ringTo c 0
theorem sgn_nbr : ∀ (c : Dev nD) (i : Fin 4), sgn (nbr c i) i = c := by decide +kernel
theorem nbr_sgn : ∀ (c : Dev nD) (i : Fin 4), nbr (sgn c i) i = c := by decide +kernel

/-! ## The column blocks of `y` -/

/-- The column block at ring distance `j` from a device. -/
def col (c : Dev nD) (j : Fin 8) : Fin 8 := ⟨k0_off12 c (BitVec.ofNat 32 j.val) 1 / 256 % 8, Nat.mod_lt _ (by decide)⟩

/-- The device of the same `y` coordinate whose own column block is `q`. -/
def owner (c : Dev nD) (q : Fin 8) : Dev nD := ⟨16 * (q.val / 4) + 4 * (c.val / 4 % 4) + q.val % 4, by have := c.isLt; simp only [nD]; omega⟩

theorem agOff_col : ∀ (c : Dev nD) (g : Fin 2) (k : Fin 4) (w s : Fin 2),
    agOff c g k w s = ![512 * (2 * g.val + s.val), 256 * (col c (jSend k w)).val] := by decide +kernel
theorem finOff_col : ∀ (c : Dev nD) (g : Fin 2) (s : Fin 8),
    finOff c g s = ![1024 * g.val + 128 * s.val, 256 * (col c 0).val] := by decide +kernel
theorem owner_col0 : ∀ c : Dev nD, owner c (col c 0) = c := by decide +kernel
theorem owner_ringTo : ∀ (c : Dev nD) (w : Fin 2) (q : Fin 8), owner (ringTo c w) q = owner c q := by decide +kernel
theorem col_ringTo : ∀ (c : Dev nD) (k : Fin 4) (w : Fin 2), ¬ (k = 3 ∧ w = 1) →
    col (ringTo c w) (jRecv k w) = col c (jSend k w) := by decide +kernel
theorem jRecv_succ : ∀ (j : Fin 3) (w : Fin 2), jRecv ⟨j.val, by omega⟩ w = jSend ⟨j.val + 1, by omega⟩ w := by decide +kernel
theorem jSend_zero : ∀ w : Fin 2, jSend 0 w = 0 := by decide +kernel
theorem col_inj : ∀ (c : Dev nD) (j j' : Fin 8), col c j = col c j' → j = j' := by decide +kernel

/-! ## The rectangles of the loads and stores -/

abbrev rTile (g : Fin 2) (h : Fin 4) (s : Fin 8) : Rect S2x2x1024x256 :=
  Rect.unit (s := S2x2x1024x256) (tilePOff g h s) S1x1x128x256.size (tilePOff_inb g h s)
abbrev rSend (g : Fin 2) (s : Fin 8) : Rect S2x1024x256 :=
  Rect.unit (s := S2x1024x256) (sendOff g s) S1x128x256.size (sendOff_inb g s)
abbrev rIn (g : Fin 2) (h : Fin 3) (s : Fin 8) : Rect S2x3x1024x256 :=
  Rect.unit (s := S2x3x1024x256) (inOff g h s) S1x1x128x256.size (inOff_inb g h s)
abbrev rFin (c : Dev nD) (g : Fin 2) (s : Fin 8) : Rect S2048x2048 :=
  Rect.unit (s := S2048x2048) (finOff c g s) S128x256.size (finOff_inb c g s)
abbrev rRow (t : Fin 4) : Rect S2048x2048 := Rect.unit (s := S2048x2048) (rowOff t) S512x2048.size (rowOff_inb t)
abbrev rGam : Rect S2048 := Rect.unit (s := S2048) ![0] S2048.size inb_S2048_S2048_0
abbrev rStg (i : Fin 2) : Rect S2x512x2048 := Rect.unit (s := S2x512x2048) (outOff i) S1x512x2048.size (outOff_inb i)
abbrev gamM : Memref sig .tc .vmem S2048 .f32 := Memref.whole cc0_stg0_0

/-- The elements of `y` in row block `r` and column block `q`. -/
def ySet (r : Fin 4) (q : Fin 8) : Finset S2048x2048.Idx :=
  Finset.univ.filter fun i => (i 0).val / 512 = r.val ∧ (i 1).val / 256 = q.val

/-! ## The contents -/

section Contents
variable (m : (ℓ : Loc nD τ sig) → Buf (Elt F) ℓ)

/-- A device's block of `x`; its `gamma`. -/
def xBuf (c : Dev nD) : (main_arg0 : Ref sig .tc).ty.Contents (Elt F) := m ((c : Thread nD τ).loc main_arg0)
def gBuf (c : Dev nD) : (cc0_stg0_0 : Ref sig .tc).ty.Contents (Elt F) :=
  (win0_0.blk (0 : Fin 1)).view.read (Elt F) (m ((c : Thread nD τ).loc main_arg1))

/-- The tile buffer holding the tile of hop `h`. -/
def tileV (c : Dev nD) (g : Fin 2) (h : Fin 4) : (cc0_scratch2 : Ref sig .tc).ty.Contents (Elt F) :=
  (tileT g (sl h)).view.write (Elt F) (m ((c : Thread nD τ).loc cc0_scratch2)) ((xSrc c g h).view.read (Elt F) (xBuf m c)) Finset.univ

/-- The landing buffer holding the piece sent from the contents `f` of the left neighbour's send buffer. -/
def landV (c : Dev nD) (g : Fin 2) (h : Fin 3) (s : Fin 8) (f : (cc0_scratch0 : Ref sig .tc).ty.Contents (Elt F)) :
    (cc0_scratch1 : Ref sig .tc).ty.Contents (Elt F) :=
  (inT g h s).view.write (Elt F) (m ((c : Thread nD τ).loc cc0_scratch1)) ((sendT g s).view.read (Elt F) f) Finset.univ

/-- The send buffer holding the partial sum of hop `h`: the tile at hop 0, what landed plus the tile afterwards. -/
def sendN : (h : ℕ) → h < 3 → Dev nD → Fin 2 → Fin 8 → (cc0_scratch0 : Ref sig .tc).ty.Contents (Elt F)
  | 0, _, c, g, s =>
    (sendM.access (rSend g s)).write (Elt F) (m ((c : Thread nD τ).loc cc0_scratch0))
      (k0_pay3 (tileM.view.readAt (Elt F) (rTile g 0 s).toLoadRect (tileV m c g 0))) Finset.univ
  | j+1, hj, c, g, s =>
    (sendM.access (rSend g s)).write (Elt F) (m ((c : Thread nD τ).loc cc0_scratch0))
      (k0_pay16 (inM.view.readAt (Elt F) (rIn g ⟨j, by omega⟩ s).toLoadRect
          (landV m c g ⟨j, by omega⟩ s (sendN j (by omega) (left c) g s)))
        (tileM.view.readAt (Elt F) (rTile g ⟨j+1, by omega⟩ s).toLoadRect (tileV m c g ⟨j+1, by omega⟩))) Finset.univ

def sendV (c : Dev nD) (g : Fin 2) (h : Fin 3) (s : Fin 8) : (cc0_scratch0 : Ref sig .tc).ty.Contents (Elt F) :=
  sendN m h.val h.isLt c g s

/-- The landing buffer holding the left neighbour's partial sum of hop `h`. -/
def inV (c : Dev nD) (g : Fin 2) (h : Fin 3) (s : Fin 8) : (cc0_scratch1 : Ref sig .tc).ty.Contents (Elt F) :=
  landV m c g h s (sendV m (left c) g h s)

/-- The own block of `y`, one piece written. -/
def finV (c : Dev nD) (g : Fin 2) (s : Fin 8) : (cc0_scratch3 : Ref sig .tc).ty.Contents (Elt F) :=
  (yM.access (rFin c g s)).write (Elt F) (m ((c : Thread nD τ).loc cc0_scratch3))
    (k0_pay30 (inM.view.readAt (Elt F) (rIn g 2 s).toLoadRect (inV m c g 2 s))
      (tileM.view.readAt (Elt F) (rTile g 3 s).toLoadRect (tileV m c g 3))) Finset.univ

/-- All of `y`: every element as the device that owns its column block writes it. -/
def yV (c : Dev nD) : (cc0_scratch3 : Ref sig .tc).ty.Contents (Elt F) := fun i : S2048x2048.Idx =>
  finV m (owner c ⟨(i 1).val / 256 % 8, Nat.mod_lt _ (by decide)⟩) ⟨(i 0).val / 1024 % 2, Nat.mod_lt _ (by decide)⟩
    ⟨(i 0).val / 128 % 8, Nat.mod_lt _ (by decide)⟩ i

/-- An output slot holding the normalised rows of block `t`. -/
def stgV (c : Dev nD) (t : Fin 4) : (cc0_scratch4 : Ref sig .tc).ty.Contents (Elt F) :=
  (stgM.access (rStg (sl t))).write (Elt F) (m ((c : Thread nD τ).loc cc0_scratch4))
    (k0_pay80 (yM.view.readAt (Elt F) (rRow t).toLoadRect (yV m c)) (gamM.view.readAt (Elt F) rGam.toLoadRect (gBuf m c))) Finset.univ

/-- The result, one block of rows copied out. -/
def outW (c : Dev nD) (t : Fin 4) : (main_v1 : Ref sig .tc).ty.Contents (Elt F) :=
  (outT t).view.write (Elt F) (m ((c : Thread nD τ).loc main_v1)) ((stgT (sl t)).view.read (Elt F) (stgV m c t)) Finset.univ

/-- The result. -/
def outV (c : Dev nD) : (main_v1 : Ref sig .tc).ty.Contents (Elt F) := fun i : S2048x2048.Idx =>
  outW m c ⟨(i 0).val / 512 % 4, Nat.mod_lt _ (by decide)⟩ i

end Contents

/-! ## Where the views lie -/

theorem view_set_y (c : Dev nD) (g : Fin 2) (k : Fin 4) (w s : Fin 2) :
    (yT c g k w s).view.set = ySet ⟨2 * g.val + s.val, by omega⟩ (col c (jSend k w)) := by
  show ((View.whole cc0_scratch3).slice _).set = _
  rw [View.set_slice]
  ext i
  simp only [Finset.mem_map]
  constructor
  · rintro ⟨j, hj, rfl⟩
    have h := Rect.mem_set_unit.mp hj
    rw [agOff_col] at h
    have h0 := h 0
    have h1 := h 1
    simp only [ySet, Finset.mem_filter, Finset.mem_univ, true_and]
    simp at h0 h1
    show (j 0).val / 512 = _ ∧ (j 1).val / 256 = _
    omega
  · intro hi
    refine ⟨i, ?_, rfl⟩
    simp only [ySet, Finset.mem_filter, Finset.mem_univ, true_and] at hi
    rw [Rect.mem_set_unit]
    intro a
    rw [agOff_col]
    match a with
    | ⟨0, _⟩ => simp; omega
    | ⟨1, _⟩ => simp; omega

end Cert.Fused
end
-- ==== Proof.Protocol.lean ====
/- The protocol: what each named part stands for, what each semaphore's rounds carry, what a device
   owes at each place of its program, and the order of the cells that excludes a deadlock. -/
module

public import proofs.«01_k».proof.Proof.Contents
public import Idealize.ShloMosaic.Lib.Pipeline.BigSepL

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own beside the rounds', whose duties have four names. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The cells -/

/-- The semaphore of a name; -/
def csem : CK → SemLoc sig
  | .bar => barS
  | .ld g i => .dma (ldS g i)
  | .st i => .dma (stS i)
  | .rsS g h s => .dma (rsSS g h s)
  | .rsR g h s => .dma (rsRS g h s)
  | .agS g k w s => .dma (agSS g k w s)
  | .agR g k w s => .dma (agRS g k w s)

/-- the name of a semaphore, if the kernel uses it. -/
def ckOf : SemLoc sig → Option CK
  | .reg s => if s = barSem then some .bar else none
  | .dma q => if q.val = 0 then none else some (CK.ofNum q.val)

theorem ckOf_csem : ∀ k : CK, ckOf (csem k) = some k := by decide +kernel
theorem csem_inj {k k' : CK} (h : csem k = csem k') : k = k' := by
  have := ckOf_csem k; rw [h, ckOf_csem] at this; exact (Option.some.inj this).symm

abbrev cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_inj (congrArg Prod.snd h)⟩

/-- How many rounds a cell runs. -/
def CK.rounds : CK → ℕ
  | .ld _ _ => 2
  | .st _ => 2
  | .agS _ k w _ => if k = 3 ∧ w = 1 then 0 else 1
  | .agR _ k w _ => if k = 3 ∧ w = 1 then 0 else 1
  | _ => 1

/-- The duties of a round. -/
def CK.duties (k : CK) (r : ℕ) : Finset (Fin 4) :=
  if r < k.rounds then (if k = .bar then Finset.univ else {0}) else ∅

/-- The units of one duty; of one round. -/
def CK.amt : CK → ℕ
  | .bar => 1
  | .ld _ _ => (tileT 0 0).view.dmaCredit
  | .st _ => (outT 0).view.dmaCredit
  | .rsS _ _ _ => (inT 0 0 0).view.dmaCredit
  | .rsR _ _ _ => (inT 0 0 0).view.dmaCredit
  | .agS _ _ _ _ => (yT 0 0 0 0 0).view.dmaCredit
  | .agR _ _ _ _ => (yT 0 0 0 0 0).view.dmaCredit
def CK.total (k : CK) : ℕ := if k = .bar then 4 else k.amt

theorem CK.amt_pos (k : CK) : 0 < k.amt := by
  cases k <;> first | exact Nat.one_pos | exact View.dmaCredit_pos _ (by decide)

section Res
variable (m : (ℓ : Loc nD τ sig) → Buf (Elt F) ℓ)

/-! ## What the parts stand for -/

def xP (c : Dev nD) (g : Fin 2) (h : Fin 4) : sProp 𝕄 :=
  (xSrc c g h).view.loc (c : Thread nD τ) ↦[(xSrc c g h).view.set]{fullShare.left} xBuf m c
def tileP (c : Dev nD) (g i : Fin 2) (f : (cc0_scratch2 : Ref sig .tc).ty.Contents (Elt F)) : sProp 𝕄 :=
  (tileT g i).view.loc (c : Thread nD τ) ↦[(tileT g i).view.set]{fullShare} f
def sendP (c : Dev nD) (g : Fin 2) (s : Fin 8) (f : (cc0_scratch0 : Ref sig .tc).ty.Contents (Elt F)) : sProp 𝕄 :=
  (sendT g s).view.loc (c : Thread nD τ) ↦[(sendT g s).view.set]{fullShare} f
def inP (c : Dev nD) (g : Fin 2) (h : Fin 3) (s : Fin 8) (f : (cc0_scratch1 : Ref sig .tc).ty.Contents (Elt F)) : sProp 𝕄 :=
  (inT g h s).view.loc (c : Thread nD τ) ↦[(inT g h s).view.set]{fullShare} f
def yP (c : Dev nD) (r : Fin 4) (q : Fin 8) (sh : PosShare TreeShare) (f : (cc0_scratch3 : Ref sig .tc).ty.Contents (Elt F)) : sProp 𝕄 :=
  (yM.view.loc (c : Thread nD τ)) ↦[ySet r q]{sh} f
def stgP (c : Dev nD) (i : Fin 2) (f : (cc0_scratch4 : Ref sig .tc).ty.Contents (Elt F)) : sProp 𝕄 :=
  (stgT i).view.loc (c : Thread nD τ) ↦[(stgT i).view.set]{fullShare} f
def outP (c : Dev nD) (t : Fin 4) (f : (main_v1 : Ref sig .tc).ty.Contents (Elt F)) : sProp 𝕄 :=
  (outT t).view.loc (c : Thread nD τ) ↦[(outT t).view.set]{fullShare} f
def gamP (c : Dev nD) : sProp 𝕄 := gamM.view.loc (c : Thread nD τ) ↦{fullShare} gBuf m c

/-- The block of rows, of four, of half `s` of group `g`. -/
abbrev yr (g s : Fin 2) : Fin 4 := ⟨2 * g.val + s.val, by omega⟩
/-- The share of the own block that a direction sends from. -/
def half (w : Fin 2) : PosShare TreeShare := if w = 0 then fullShare.left else fullShare.right

/-- The contents a part stands for. -/
def resD (c : Dev nD) : Atom → sProp 𝕄
  | .x g h => xP m c g h
  | .tileAny g i => iprop(∃ f, tileP c g i f)
  | .tile g h => tileP c g (sl h) (tileV m c g h)
  | .sendAny g s => iprop(∃ f, sendP c g s f)
  | .send g h s => sendP c g s (sendV m c g h s)
  | .inAny g h s => iprop(∃ f, inP c g h s f)
  | .inDst g h s => iprop(∃ f, inP (right c) g h s f)
  | .inn g h s => inP c g h s (inV m c g h s)
  | .yAny g s j => iprop(∃ f, yP c (yr g s) (col c j) fullShare f)
  | .yDst g k w s => iprop(∃ f, yP (ringTo c w) (yr g s) (col c (jSend k w)) fullShare f)
  | .yHas g s j => yP c (yr g s) (col c j) fullShare (yV m c)
  | .yPart g s i => iprop(∃ f, ⌜∀ x ∈ ySet (yr g s) (col c 0), (x 0).val / 128 % 4 < i.val → f x = yV m c x⌝
      ∗ yP c (yr g s) (col c 0) fullShare f)
  | .yHalf g s w => yP c (yr g s) (col c 0) (half w) (yV m c)
  | .outAny t => iprop(∃ f, outP c t f)
  | .out t => outP c t (outV m c)
  | .stgAny i => iprop(∃ f, stgP c i f)
  | .stg t => stgP c (sl t) (stgV m c t)
  | .gam => gamP m c
  | _ => iprop(emp)

instance resD_storable (c : Dev nD) (a : Atom) : BI.Storable (upEmb : UEmb _ 𝕄) (resD (F := F) m c a) := by
  cases a <;> (dsimp only [resD]; try unfold xP) <;>
    (try unfold tileP) <;> (try unfold sendP) <;> (try unfold inP) <;> (try unfold yP) <;> (try unfold outP) <;> (try unfold stgP) <;> (try unfold gamP) <;>
    infer_instance

instance bigSepL_storable {I : Type} (l : List I) (Φ : I → sProp 𝕄) [h : ∀ a, BI.Storable (upEmb : UEmb _ 𝕄) (Φ a)] :
    BI.Storable (upEmb : UEmb _ 𝕄) (bigSepL l Φ) := by
  induction l with
  | nil => exact BI.Storable.emp _
  | cons a l ih => rw [bigSepL_cons']; infer_instance

/-- A ring step that happens: the last one goes in one direction only. -/
abbrev Valid (k : Fin 4) (w : Fin 2) : Prop := ¬ (k = 3 ∧ w = 1)

/-- What a part stands for. -/
def res (c : Dev nD) : Atom → sProp 𝕄
  | .pos k r => iprop(atPos ER (cell c k) r.val ∅ 0 ∗ reached ER (cell c k) r.val)
  | .tokSig i => dutyTok ER (cell (nbr c i) .bar) 0 i
  | .tokLd g h => dutyTok ER (cell c (.ld g (sl h))) (h.val / 2) 0
  | .tokSt t => dutyTok ER (cell c (.st (sl t))) (t.val / 2) 0
  | .tokRs g h s => iprop(dutyTok ER (cell c (.rsS g h s)) 0 0 ∗ dutyTok ER (cell (right c) (.rsR g h s)) 0 0)
  | .tokAg g k w s => iprop(⌜Valid k w⌝ ∗ dutyTok ER (cell c (.agS g k w s)) 0 0 ∗ dutyTok ER (cell (ringTo c w) (.agR g k w s)) 0 0)
  | .crBar => cred (tallyAt (cell c .bar) () 4)
  | .crLd g h => cred (tallyAt (cell c (.ld g (sl h))) () (CK.ld g (sl h)).amt)
  | .crSt t => cred (tallyAt (cell c (.st (sl t))) () (CK.st (sl t)).amt)
  | .crRsS g h s => cred (tallyAt (cell c (.rsS g h s)) () (CK.rsS g h s).amt)
  | .crRsR g h s => cred (tallyAt (cell c (.rsR g h s)) () (CK.rsR g h s).amt)
  | .crAgS g k w s => iprop(⌜Valid k w⌝ ∗ cred (tallyAt (cell c (.agS g k w s)) () (CK.agS g k w s).amt))
  | .crAgR g k w s => iprop(⌜Valid k w⌝ ∗ cred (tallyAt (cell c (.agR g k w s)) () (CK.agR g k w s).amt))
  | a => resD m c a

/-! ## The schedule -/

abbrev hOf (r : ℕ) (i : Fin 2) : Fin 4 := ⟨(2 * r + i.val) % 4, Nat.mod_lt _ (by decide)⟩
theorem hOf_sl : ∀ h : Fin 4, hOf (h.val / 2) (sl h) = h := by decide

/-- What a duty of a cell of device `c` hands the waiter. -/
def pay (c : Dev nD) (k : CK) (r : ℕ) (d : Fin 4) : sProp 𝕄 :=
  match k with
  | .bar => bigSepL (handed d) (resD m (sgn c d))
  | .ld g i => iprop(resD m c (.tile g (hOf r i)) ∗ resD m c (.x g (hOf r i)))
  | .st i => iprop(resD m c (.out (hOf r i)) ∗ resD m c (.stg (hOf r i)))
  | .rsS g h s => resD m c (.send g h s)
  | .rsR g h s => resD m c (.inn g h s)
  | .agS g k w s => resD m c (agSrc g k w s)
  | .agR g k w s => resD m c (.yHas g s (jRecv k w))

instance pay_storable (c : Dev nD) (k : CK) (r : ℕ) (d : Fin 4) : BI.Storable (upEmb : UEmb _ 𝕄) (pay (F := F) m c k r d) := by
  cases k <;> (dsimp only [pay]; infer_instance)

def Rd : Rounds.Schedule (GSem nD τ sig) (Fin 4) 𝕄 where
  duties g r := if g.1.2 = .tc then (match ckOf g.2 with | none => ∅ | some k => k.duties r) else ∅
  unitless _ := False
  amount g _ _ := match ckOf g.2 with | none => 1 | some k => k.amt
  payload g r d := match ckOf g.2 with | none => iprop(emp) | some k => pay m g.1.1 k r d
  amount_pos g _ _ _ := by
    cases ckOf g.2 with
    | none => exact Nat.one_pos
    | some k => exact k.amt_pos

instance Rd_payload_storable (g : GSem nD τ sig) (r : ℕ) (d : Fin 4) :
    BI.Storable (upEmb : UEmb _ 𝕄) ((Rd (F := F) m).payload g r d) := by
  show BI.Storable upEmb (match ckOf g.2 with | none => iprop(emp) | some k => pay m g.1.1 k r d)
  cases ckOf g.2 <;> infer_instance

theorem Rd_duties (c : Dev nD) (k : CK) (r : ℕ) : (Rd (F := F) m).duties (cell c k) r = k.duties r := by
  show (if (c : Thread nD τ).2 = .tc then (match ckOf (csem k) with | none => ∅ | some k => k.duties r) else ∅) = _
  rw [if_pos rfl, ckOf_csem]
theorem Rd_amount (c : Dev nD) (k : CK) (r : ℕ) (d : Fin 4) : (Rd (F := F) m).amount (cell c k) r d = k.amt := by
  show (match ckOf (csem k) with | none => 1 | some k => k.amt) = _
  rw [ckOf_csem]
theorem Rd_payload (c : Dev nD) (k : CK) (r : ℕ) (d : Fin 4) : (Rd (F := F) m).payload (cell c k) r d = pay m c k r d := by
  show (match ckOf (csem k) with | none => iprop(emp) | some k => pay m c k r d) = _
  rw [ckOf_csem]

theorem duty_mem {k : CK} {r : ℕ} (h : r < k.rounds) {d : Fin 4} (hd : k = .bar ∨ d = 0) (c : Dev nD) :
    d ∈ (Rd (F := F) m).duties (cell c k) r := by
  rw [Rd_duties, CK.duties, if_pos h]
  rcases hd with rfl | rfl
  · exact Finset.mem_univ _
  · split
    · exact Finset.mem_univ _
    · exact Finset.mem_singleton_self _

theorem Rd_expect (c : Dev nD) (k : CK) {r : ℕ} (h : r < k.rounds) : (Rd (F := F) m).expect (cell c k) r = k.total := by
  unfold Schedule.expect Schedule.amountOf
  rw [Rd_duties, CK.duties, if_pos h, CK.total]
  split
  · rename_i hk; subst hk
    rw [Finset.sum_congr rfl fun d _ => Rd_amount m c .bar r d]; rfl
  · rw [Finset.sum_singleton, Rd_amount]

theorem Rd_rest (c : Dev nD) {k : CK} (hk : k ≠ .bar) {r : ℕ} (h : r < k.rounds) :
    bigSep ((Rd (F := F) m).duties (cell c k) r \ ∅) (fun d => (Rd (F := F) m).payload (cell c k) r d) = pay m c k r 0 := by
  rw [Finset.sdiff_empty, Rd_duties, CK.duties, if_pos h, if_neg hk, bigSep_singleton, Rd_payload]

theorem Rd_rest_bar (c : Dev nD) :
    bigSep ((Rd (F := F) m).duties (cell c .bar) 0 \ ∅) (fun d => (Rd (F := F) m).payload (cell c .bar) 0 d)
      = iprop(pay m c .bar 0 0 ∗ pay m c .bar 0 1 ∗ pay m c .bar 0 2 ∗ pay m c .bar 0 3) := by
  rw [Finset.sdiff_empty, Rd_duties, CK.duties, if_pos (by decide), if_pos rfl,
    bigSep_univ_eq_bigSepL [0, 1, 2, 3] (by decide) (by decide), bigSepL_cons_cons, bigSepL_cons_cons, bigSepL_cons_cons, bigSepL_singleton,
    Rd_payload, Rd_payload, Rd_payload, Rd_payload]
  rfl

theorem Rd_later (c : Dev nD) (k : CK) (R : ℕ) (h : k.rounds ≤ R) : ∀ r, R ≤ r → (Rd (F := F) m).duties (cell c k) r = ∅ := fun r hr => by
  rw [Rd_duties, CK.duties, if_neg (by omega)]

/-! ## What a device owes; the levels -/

end Res

/-- The device an event pays. -/
def tgt (c : Dev nD) : Ev → Dev nD
  | .signal i => nbr c i
  | .rsStart _ _ _ => right c
  | .agStart _ _ w _ => ringTo c w
  | _ => c

def owe1 (c : Dev nD) (e : Ev) : CellTallies nD τ sig Unit :=
  match e.pays with
  | none => 0
  | some k => tallyAt (cell (tgt c e) k) () k.amt

/-- What the rest of a program still owes. -/
def owedL (c : Dev nD) : List Ev → CellTallies nD τ sig Unit
  | [] => 0
  | e :: l => owedL c l + owe1 c e

theorem owe1_pos {c : Dev nD} {e : Ev} {g : GSem nD τ sig} {u : Unit} (h : 0 < owe1 c e g u) :
    ∃ k, e.pays = some k ∧ g = cell (tgt c e) k := by
  unfold owe1 at h
  cases hk : e.pays with
  | none => rw [hk] at h; exact absurd h (Nat.lt_irrefl 0)
  | some k =>
    rw [hk] at h
    refine ⟨k, rfl, ?_⟩
    dsimp only at h
    rw [tallyAt_apply] at h
    by_contra hn
    rw [if_neg fun h' => hn h'.1] at h
    exact Nat.lt_irrefl 0 h

theorem owedL_pos {c : Dev nD} {g : GSem nD τ sig} {u : Unit} : ∀ {l : List Ev}, 0 < owedL c l g u →
    ∃ e ∈ l, ∃ k, e.pays = some k ∧ g = cell (tgt c e) k
  | [], h => absurd h (Nat.lt_irrefl 0)
  | e :: l, h => by
    rw [owedL, Pi.add_apply, Finsupp.add_apply] at h
    rcases Nat.eq_zero_or_pos (owe1 c e g u) with h0 | h0
    · rw [h0] at h
      obtain ⟨e', he', h'⟩ := owedL_pos (l := l) h
      exact ⟨e', List.mem_cons_of_mem _ he', h'⟩
    · exact ⟨e, List.mem_cons_self, owe1_pos h0⟩

def L (g : GSem nD τ sig) : Finset Unit := if g.1.2 = .tc then {()} else ∅
def lv (g : GSem nD τ sig) (_ : Unit) : ℕ := match ckOf g.2 with | none => 0 | some k => k.lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = k.lvl := by
  show (match ckOf (csem k) with | none => 0 | some k => k.lvl) = _
  rw [ckOf_csem]

/-- A wait on a cell below everything still owed is allowed. -/
theorem mayWait_cut (c : Dev nD) (sm : SemLoc sig) (n : ℕ) (hn : lv ((c : Thread nD τ), sm) () ≤ n) (l : List Ev)
    (h : ∀ e ∈ l, ∀ k, e.pays = some k → n < k.lvl) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by
      obtain ⟨e, he, k, hk, rfl⟩ := owedL_pos hg
      rw [L_tc]; exact Finset.mem_singleton_self _)
    (fun p hp => by rw [Finset.mem_singleton.mp hp]; exact hn)
    (fun g u hg => by
      obtain ⟨e, he, k, hk, rfl⟩ := owedL_pos hg
      rw [lv_cell]; exact h e he k hk)

theorem mayWait_ev (c : Dev nD) {e : Ev} {l : List Ev} (hl : waitOk e l = true) {k : CK} (hk : e.waits = some k) :
    (levAts L lv : sProp 𝕄) ⊢ MayWait (c : Thread nD τ) (csem k) () (owedL c l) :=
  mayWait_cut c (csem k) k.lvl (le_of_eq (lv_cell c k ())) l fun e' he' k' hk' => by
    unfold waitOk at hl
    rw [hk] at hl
    have h := List.all_eq_true.mp hl e' he'
    rw [hk'] at h
    exact Nat.blt_eq.mp h

end Cert.Fused
end
-- ==== Proof.Held.lean ====
/- Taking parts out of the set a device holds, and putting parts back: the bit arithmetic of the check
   is the separation logic of the parts. -/
module

public import proofs.«01_k».proof.Proof.Protocol

@[expose] public section

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- Every part whose bit is set. -/
def held (Φ : Atom → sProp 𝕄) (M : ℕ) : sProp 𝕄 := bigSep (Finset.univ.filter fun a : Atom => M.testBit a.code = true) Φ

theorem flip_bit (M : ℕ) (a b : Atom) : (M ^^^ 2 ^ a.code).testBit b.code = (M.testBit b.code ^^ decide (a = b)) := by
  rw [Nat.testBit_xor, Nat.testBit_two_pow]
  congr 1
  by_cases h : a = b
  · subst h; simp
  · have h' : ¬ a.code = b.code := fun h' => h (Atom.code_inj h')
    simp [h, h']

theorem held_take (Φ : Atom → sProp 𝕄) {M : ℕ} {a : Atom} (h : M.testBit a.code = true) :
    held Φ M = iprop(Φ a ∗ held Φ (M ^^^ 2 ^ a.code)) := by
  unfold held
  have hs : (Finset.univ.filter fun b : Atom => M.testBit b.code = true)
      = insert a (Finset.univ.filter fun b : Atom => (M ^^^ 2 ^ a.code).testBit b.code = true) := by
    ext b
    simp only [Finset.mem_insert, Finset.mem_filter, Finset.mem_univ, _root_.true_and, flip_bit]
    by_cases hb : b = a
    · subst hb; simp [h]
    · have hb' : ¬ a = b := fun h' => hb h'.symm
      simp [hb, hb']
  rw [hs]
  refine BI.bigSep_insert fun h' => ?_
  simp only [Finset.mem_filter, Finset.mem_univ, _root_.true_and, flip_bit] at h'
  simp [h] at h'

theorem held_zero (Φ : Atom → sProp 𝕄) : held Φ 0 = iprop(emp) := by
  unfold held
  rw [Finset.filter_false_of_mem (by simp)]
  rfl

theorem take_ok (Φ : Atom → sProp 𝕄) : ∀ (l : List Atom) {M M' : ℕ}, takeAll l M = some M' →
    held Φ M ⊢ iprop(bigSepL l Φ ∗ held Φ M')
  | [], M, M', h => by
    rw [takeAll] at h; cases h
    iintro H
    isplitr
    · rw [bigSepL_nil]; iempintro
    · iexact H
  | a :: l, M, M', h => by
    rw [takeAll] at h
    cases hb : M.testBit a.code with
    | false => rw [hb] at h; cases h
    | true =>
      rw [hb] at h
      rw [held_take Φ hb, bigSepL_cons']
      have ih := take_ok Φ l (M := M ^^^ 2 ^ a.code) (M' := M') h
      iintro ⟨Ha, H⟩
      ihave H := ih $$ H
      icases H with ⟨Hl, H⟩
      isplitl [Ha Hl]
      · isplitl [Ha] <;> iassumption
      · iexact H

theorem put_ok (Φ : Atom → sProp 𝕄) : ∀ (l : List Atom) {M M' : ℕ}, putAll l M = some M' →
    iprop(bigSepL l Φ ∗ held Φ M) ⊢ held Φ M'
  | [], M, M', h => by
    rw [putAll] at h; cases h
    iintro ⟨-, H⟩; iexact H
  | a :: l, M, M', h => by
    rw [putAll] at h
    cases hb : M.testBit a.code with
    | true => rw [hb] at h; cases h
    | false =>
      rw [hb] at h
      have ih := put_ok Φ l (M := M ^^^ 2 ^ a.code) (M' := M') h
      have hb' : (M ^^^ 2 ^ a.code).testBit a.code = true := by rw [flip_bit, hb]; simp
      have e := held_take Φ hb'
      rw [Nat.xor_assoc, Nat.xor_self, Nat.xor_zero] at e
      refine BIBase.Entails.trans ?_ ih
      rw [e, bigSepL_cons']
      iintro ⟨⟨Ha, Hl⟩, H⟩
      isplitl [Hl]; · iexact Hl
      isplitl [Ha] <;> iassumption

end Cert.Fused
end
-- ==== Proof.Steps.lean ====
/- Each kind of event is sound: from the parts it needs, its operation runs and leaves the parts it gives. -/
module

public import proofs.«01_k».proof.Proof.Held

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-- What everyone knows: every cell's invariant and its first round; the levels. -/
def records : sProp 𝕄 :=
  iprop((bigSep Finset.univ fun ck : Dev nD × CK => cellInv ER (Rd m) (Kn ck) (cell ck.1 ck.2))
    ∗ bigSep Finset.univ fun ck : Dev nD × CK => reached ER (cell ck.1 ck.2) 0)
def levs : sProp 𝕄 := levAts L lv
instance levs_persistent : BI.Persistent (levs (F := F)) := by unfold levs; infer_instance
def ctx : sProp 𝕄 := iprop(records m Kn ∗ levs (F := F))

instance records_persistent : BI.Persistent (records m Kn) := by unfold records; infer_instance
instance ctx_persistent : BI.Persistent (ctx m Kn) := by unfold ctx; infer_instance

theorem inv_elim (c : Dev nD) (k : CK) :
    (bigSep Finset.univ fun ck : Dev nD × CK => (cellInv ER (Rd m) (Kn ck) (cell ck.1 ck.2) : sProp 𝕄)) ⊢ cellInv ER (Rd m) (Kn (c, k)) (cell c k) :=
  bigSep_elim (Finset.mem_univ (c, k))
theorem reached_elim (c : Dev nD) (k : CK) :
    (bigSep Finset.univ fun ck : Dev nD × CK => (reached ER (cell ck.1 ck.2) 0 : sProp 𝕄)) ⊢ reached ER (cell c k) 0 :=
  bigSep_elim (Finset.mem_univ (c, k))
theorem ctx_inv (c : Dev nD) (k : CK) : ctx m Kn ⊢ cellInv ER (Rd m) (Kn (c, k)) (cell c k) := by
  unfold ctx records
  iintro ⟨⟨HI, -⟩, -⟩
  iapply (inv_elim m Kn c k); iexact HI
theorem ctx_reached (c : Dev nD) (k : CK) : ctx m Kn ⊢ reached ER (cell c k) 0 := by
  unfold ctx records
  iintro ⟨⟨-, HR⟩, -⟩
  iapply (reached_elim (F := F) c k); iexact HR
theorem ctx_lev : ctx m Kn ⊢ (levs (F := F) : sProp 𝕄) := by
  unfold ctx; iintro ⟨-, H⟩; iexact H

/-- What a device still owes, whatever it has waited on. -/
def owed (c : Dev nD) (l : List Ev) : sProp 𝕄 := iprop(∃ W, owes (c : Thread nD τ) (owedL c l) W)

abbrev WP (c : Dev nD) (P : Prog (TcE F) PUnit) (Q : PUnit → sProp 𝕄) : sProp 𝕄 :=
  wp frame (wpE (defs₀ (F := F)) 𝒱₀ (c : Thread nD τ) none) Set.univ P Q

/-- An event is sound on a device. -/
def StepOk (c : Dev nD) (e : Ev) : Prop :=
  ∀ (l : List Ev) (P : Prog (TcE F) PUnit) (Q : PUnit → sProp 𝕄), waitOk e l = true →
    iprop(ctx m Kn ∗ bigSepL e.need (res m c) ∗ owed c (e :: l))
      ⊢ iprop(((bigSepL e.give (res m c) ∗ owed c l) -∗ WP c P Q) -∗ WP c (step c gamM e P) Q)

theorem owed_skip (c : Dev nD) {e : Ev} (he : e.pays = none) (l : List Ev) : (owed c (e :: l) : sProp 𝕄) = owed c l := by
  unfold owed
  rw [show owedL c (e :: l) = owedL c l + owe1 c e from rfl, show owe1 c e = 0 from by unfold owe1; rw [he], add_zero]

/-- A wait for a whole round. -/
theorem wait_ok (c : Dev nD) {e : Ev} {l : List Ev} (hl : waitOk e l = true) {k : CK} (hk : e.waits = some k) (hp : e.pays = none)
    {r : ℕ} (hr : r < k.rounds) {w : TcE F PUnit} {n : ℕ}
    (hw : ∀ K : PUnit → sProp 𝕄, wpE (defs₀ (F := F)) 𝒱₀ (c : Thread nD τ) none Set.univ w K = waitSpec (c : Thread nD τ) Set.univ (csem k) n K)
    (hn : n = k.total) (P : Prog (TcE F) PUnit) (Q : PUnit → sProp 𝕄) :
    iprop(ctx m Kn ∗ cred (tallyAt (cell c k) () n) ∗ (atPos ER (cell c k) r ∅ 0 ∗ reached ER (cell c k) r) ∗ owed c (e :: l))
      ⊢ iprop((((bigSep ((Rd m).duties (cell c k) r \ ∅) fun d => (Rd m).payload (cell c k) r d)
            ∗ (atPos ER (cell c k) (r + 1) ∅ 0 ∗ reached ER (cell c k) (r + 1)) ∗ owed c l) -∗ WP c P Q)
          -∗ WP c (.op w fun _ => P) Q) := by
  rw [owed_skip c hp]
  have hx : 0 + n = (Rd (F := F) m).expect (cell c k) r :=
    (Nat.zero_add n).trans (hn.trans (Rd_expect m c k hr).symm)
  have hmw : ctx m Kn ⊢ MayWait (c : Thread nD τ) (csem k) () (owedL c l) :=
    BIBase.Entails.trans (ctx_lev (F := F) m Kn) (by unfold levs; exact mayWait_ev (F := F) c hl hk)
  unfold owed
  iintro ⟨#Hc, Hcr, ⟨Hat, -⟩, ⟨%W, Ho⟩⟩ Hk
  iapply (Rounds.wp_wait_rest_token 𝒱₀ ER (Rd m) (c : Thread nD τ) none (κ := Kn (c, k)) hw (Set.mem_univ _) ()
      (O := owedL c l) (W := W) (R := r) (m := 0) (T := ∅) hx) $$ [Hcr Ho Hat]
  · isplitr; · iapply (ctx_inv m Kn c k); iexact Hc
    isplitl [Hcr]; · iexact Hcr
    isplitl [Ho]; · iexact Ho
    isplitr; · iapply hmw; iexact Hc
    iexact Hat
  iintro ⟨Ho, Hat, Hre, Hpay⟩
  iapply Hk
  isplitl [Hpay]; · iexact Hpay
  isplitl [Hat Hre]
  · isplitl [Hat] <;> iassumption
  iexists _; iexact Ho

/-- An event whose needs cannot be held is sound. -/
theorem step_absurd (c : Dev nD) (e : Ev) (h : bigSepL e.need (res m c) ⊢ (⌜False⌝ : sProp 𝕄)) : StepOk m Kn c e := fun l P Q hl => by
  iintro ⟨-, H, -⟩
  ihave H := h $$ H
  icases H with %H
  exact H.elim

/-- A waiting event is sound. -/
theorem wait_step (c : Dev nD) (e : Ev) {k : CK} (hk : e.waits = some k) (hp : e.pays = none) {r : ℕ} (hr : r < k.rounds)
    {w : TcE F PUnit} {n : ℕ}
    (hstep : ∀ P, step c gamM e P = .op w fun _ => P)
    (hw : ∀ K : PUnit → sProp 𝕄, wpE (defs₀ (F := F)) 𝒱₀ (c : Thread nD τ) none Set.univ w K = waitSpec (c : Thread nD τ) Set.univ (csem k) n K)
    (hn : n = k.total)
    (hneed : bigSepL e.need (res m c) ⊢ iprop(cred (tallyAt (cell c k) () k.total) ∗ atPos ER (cell c k) r ∅ 0 ∗ reached ER (cell c k) r))
    (hgive : iprop((bigSep ((Rd m).duties (cell c k) r \ ∅) fun d => (Rd m).payload (cell c k) r d)
        ∗ atPos ER (cell c k) (r + 1) ∅ 0 ∗ reached ER (cell c k) (r + 1)) ⊢ bigSepL e.give (res m c)) : StepOk m Kn c e := fun l P Q hl => by
  subst hn
  rw [hstep]
  have W := wait_ok m Kn c hl hk hp hr hw rfl P Q
  iintro ⟨#Hc, Hn, Ho⟩ Hk
  ihave Hn := hneed $$ Hn
  icases Hn with ⟨Hcr, Hpos⟩
  iapply W $$ [Hcr Hpos Ho]
  · isplitr; · iexact Hc
    isplitl [Hcr]; · iexact Hcr
    isplitl [Hpos] <;> iassumption
  iintro ⟨Hpay, Hpos, Ho⟩
  iapply Hk
  isplitl [Hpay Hpos]
  · iapply hgive
    isplitl [Hpay] <;> iassumption
  iexact Ho

end Cert.Fused
end
-- ==== Proof.Waits.lean ====
/- The waits are sound. -/
module

public import proofs.«01_k».proof.Proof.Steps

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## The waits -/

theorem pay_ld (c : Dev nD) (g i : Fin 2) (r : ℕ) (d : Fin 4) :
    pay m c (.ld g i) r d = iprop(resD m c (.tile g (hOf r i)) ∗ resD m c (.x g (hOf r i))) := rfl
theorem pay_st (c : Dev nD) (i : Fin 2) (r : ℕ) (d : Fin 4) :
    pay m c (.st i) r d = iprop(resD m c (.out (hOf r i)) ∗ resD m c (.stg (hOf r i))) := rfl

theorem loadW_ok (c : Dev nD) (g : Fin 2) (h : Fin 4) : StepOk m Kn c (.loadW g h) := by
  have hr : h.val / 2 < (CK.ld g (sl h)).rounds := by show h.val / 2 < 2; omega
  have hpay : bigSep ((Rd m).duties (cell c (.ld g (sl h))) (h.val / 2) \ ∅) (fun d => (Rd m).payload (cell c (.ld g (sl h))) (h.val / 2) d)
      = iprop(resD m c (.tile g h) ∗ resD m c (.x g h)) := by
    rw [Rd_rest m c (by intro h; cases h) hr]
    rw [pay_ld, hOf_sl]
  exact wait_step m Kn c (.loadW g h) (k := .ld g (sl h)) rfl rfl hr (fun _ => rfl) (n := (tileT g (sl h)).view.dmaCredit) (wpE_waitDma2_eq 𝒱₀ (c : Thread nD τ) none Set.univ) rfl BIBase.Entails.rfl (by rw [hpay]; exact sep_assoc.1)

theorem storeW_ok (c : Dev nD) (t : Fin 4) : StepOk m Kn c (.storeW t) := by
  have hr : t.val / 2 < (CK.st (sl t)).rounds := by show t.val / 2 < 2; omega
  have hpay : bigSep ((Rd m).duties (cell c (.st (sl t))) (t.val / 2) \ ∅) (fun d => (Rd m).payload (cell c (.st (sl t))) (t.val / 2) d)
      = iprop(resD m c (.out t) ∗ resD m c (.stg t)) := by
    rw [Rd_rest m c (by intro h; cases h) hr]
    rw [pay_st, hOf_sl]
  exact wait_step m Kn c (.storeW t) (k := .st (sl t)) rfl rfl hr (fun _ => rfl) (n := (outT 0).view.dmaCredit) (wpE_waitDma2_eq 𝒱₀ (c : Thread nD τ) none Set.univ) (if_neg (by intro h; cases h)).symm
    (by rw [show (CK.st (sl t)).total = (CK.st (sl t)).amt from if_neg (by intro h; cases h)]; exact BIBase.Entails.rfl) (by rw [hpay]; exact sep_assoc.1)

theorem rsRecv_ok (c : Dev nD) (g : Fin 2) (h : Fin 3) (s : Fin 8) : StepOk m Kn c (.rsRecv g h s) :=
  wait_step m Kn c (.rsRecv g h s) (k := .rsR g h s) rfl rfl (r := 0) Nat.one_pos (fun _ => rfl) (n := (inT g h s).view.dmaCredit) (wpE_waitDma2_eq 𝒱₀ (c : Thread nD τ) none Set.univ) rfl BIBase.Entails.rfl (by rw [Rd_rest m c (by intro h; cases h) Nat.one_pos]; exact BIBase.Entails.rfl)

theorem rsSent_ok (c : Dev nD) (g : Fin 2) (h : Fin 3) (s : Fin 8) : StepOk m Kn c (.rsSent g h s) :=
  wait_step m Kn c (.rsSent g h s) (k := .rsS g h s) rfl rfl (r := 0) Nat.one_pos (fun _ => rfl) (n := (sendT g s).view.dmaCredit) (wpE_waitDma2_eq 𝒱₀ (c : Thread nD τ) none Set.univ) rfl BIBase.Entails.rfl (by rw [Rd_rest m c (by intro h; cases h) Nat.one_pos]; exact BIBase.Entails.rfl)

theorem res_data (c : Dev nD) (g : Fin 2) (k : Fin 4) (w s : Fin 2) : res m c (agSrc g k w s) = resD m c (agSrc g k w s) := by
  match k with
  | ⟨0, _⟩ => rfl
  | ⟨j+1, _⟩ => rfl

theorem agRecv_ok (c : Dev nD) (g : Fin 2) (k : Fin 4) (w s : Fin 2) : StepOk m Kn c (.agRecv g k w s) := by
  have hneed : bigSepL (Ev.agRecv g k w s).need (res m c) = iprop((⌜Valid k w⌝ ∗ cred (tallyAt (cell c (.agR g k w s)) () (CK.agR g k w s).amt))
      ∗ atPos ER (cell c (.agR g k w s)) 0 ∅ 0 ∗ reached ER (cell c (.agR g k w s)) 0) := rfl
  by_cases hv : Valid k w
  · have hr : 0 < (CK.agR g k w s).rounds := by show 0 < if k = 3 ∧ w = 1 then 0 else 1; rw [if_neg hv]; exact Nat.one_pos
    refine wait_step m Kn c (.agRecv g k w s) (k := .agR g k w s) rfl rfl (r := 0) hr (fun _ => rfl) (n := (yT c g k w s).view.dmaCredit) (wpE_waitDma2_eq 𝒱₀ (c : Thread nD τ) none Set.univ) rfl ?_ (by rw [Rd_rest m c (by intro h; cases h) hr]; exact BIBase.Entails.rfl)
    rw [hneed, show (CK.agR g k w s).total = (CK.agR g k w s).amt from rfl]
    iintro ⟨⟨-, H⟩, Hp⟩
    isplitl [H] <;> iassumption
  · refine step_absurd m Kn c _ ?_
    rw [hneed]
    iintro ⟨⟨%h, -⟩, -⟩
    exact absurd h hv

theorem agSent_ok (c : Dev nD) (g : Fin 2) (k : Fin 4) (w s : Fin 2) : StepOk m Kn c (.agSent g k w s) := by
  have hneed : bigSepL (Ev.agSent g k w s).need (res m c) = iprop((⌜Valid k w⌝ ∗ cred (tallyAt (cell c (.agS g k w s)) () (CK.agS g k w s).amt))
      ∗ atPos ER (cell c (.agS g k w s)) 0 ∅ 0 ∗ reached ER (cell c (.agS g k w s)) 0) := rfl
  by_cases hv : Valid k w
  · have hr : 0 < (CK.agS g k w s).rounds := by show 0 < if k = 3 ∧ w = 1 then 0 else 1; rw [if_neg hv]; exact Nat.one_pos
    refine wait_step m Kn c (.agSent g k w s) (k := .agS g k w s) rfl rfl (r := 0) hr (fun _ => rfl) (n := (yT c g k w s).view.dmaCredit) (wpE_waitDma2_eq 𝒱₀ (c : Thread nD τ) none Set.univ) rfl ?_ ?_
    · rw [hneed, show (CK.agS g k w s).total = (CK.agS g k w s).amt from rfl]
      iintro ⟨⟨-, H⟩, Hp⟩
      isplitl [H] <;> iassumption
    · rw [Rd_rest m c (by intro h; cases h) hr,
        show bigSepL (Ev.agSent g k w s).give (res m c) = iprop(res m c (agSrc g k w s) ∗ res m c (.pos (.agS g k w s) 1)) from rfl, res_data]
      exact BIBase.Entails.rfl
  · refine step_absurd m Kn c _ ?_
    rw [hneed]
    iintro ⟨⟨%h, -⟩, -⟩
    exact absurd h hv

end Cert.Fused
end
-- ==== Proof.Barrier.lean ====
/- The barrier: the signals hand the landing buffers over, the wait receives the neighbours'. -/
module

public import proofs.«01_k».proof.Proof.Steps

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## The barrier -/

theorem handed_data (c : Dev nD) (i : Fin 4) : bigSepL (handed i) (res m c) = bigSepL (handed i) (resD m c) := by
  match i with
  | ⟨0, _⟩ => unfold handed; simp only [bigSepL_map]; rfl
  | ⟨1, _⟩ => rfl
  | ⟨2, _⟩ => unfold handed; simp only [bigSepL_map]; rfl
  | ⟨3, _⟩ => unfold handed; simp only [bigSepL_map]; rfl

theorem agIdx_valid : ∀ w : Fin 2, ∀ x ∈ agIdx w, Valid x.2.1 w := by decide +kernel

theorem yAny_dst (c : Dev nD) (g : Fin 2) (k : Fin 4) (w s : Fin 2) (hv : Valid k w) :
    resD m (ringTo c w) (.yAny g s (jRecv k w)) = res m c (.yDst g k w s) := by
  show iprop(∃ f, yP (ringTo c w) (yr g s) (col (ringTo c w) (jRecv k w)) fullShare f) = iprop(∃ f, yP (ringTo c w) (yr g s) (col c (jSend k w)) fullShare f)
  rw [col_ringTo c k w hv]

theorem handed_dst (c : Dev nD) (w : Fin 2) :
    bigSepL ((agIdx w).map fun x => .yAny x.1 x.2.2 (jRecv x.2.1 w)) (resD m (ringTo c w))
      ⊢ bigSepL ((agIdx w).map fun x => .yDst x.1 x.2.1 w x.2.2) (res m c) := by
  rw [bigSepL_map, bigSepL_map]
  exact bigSepL_mono fun x hx => BIBase.Entails.of_eq (yAny_dst m c x.1 x.2.1 w x.2.2 (agIdx_valid w x hx))

theorem pay_bar (c : Dev nD) (d : Fin 4) : pay m c .bar 0 d = bigSepL (handed d) (resD m (sgn c d)) := rfl
theorem handed0 : handed 0 = rsIdx.map fun x => .inAny x.1 x.2.1 x.2.2 := rfl
theorem handed2 : handed 2 = (agIdx 1).map fun x => .yAny x.1 x.2.2 (jRecv x.2.1 1) := rfl
theorem handed3 : handed 3 = (agIdx 0).map fun x => .yAny x.1 x.2.2 (jRecv x.2.1 0) := rfl
theorem sgn_eq (c : Dev nD) : sgn c 0 = right c ∧ sgn c 2 = ringTo c 1 ∧ sgn c 3 = ringTo c 0 := ⟨rfl, rfl, rfl⟩

theorem pay_bar0 (c : Dev nD) : pay m c .bar 0 0 ⊢ bigSepL (rsIdx.map fun x => Atom.inDst x.1 x.2.1 x.2.2) (res m c) := by
  rw [pay_bar, handed0, (sgn_eq c).1, bigSepL_map, bigSepL_map]
  exact bigSepL_mono fun x _ => BIBase.Entails.rfl
theorem pay_bar2 (c : Dev nD) : pay m c .bar 0 2 ⊢ bigSepL ((agIdx 1).map fun x => Atom.yDst x.1 x.2.1 1 x.2.2) (res m c) := by
  rw [pay_bar, handed2, (sgn_eq c).2.1]; exact handed_dst m c 1
theorem pay_bar3 (c : Dev nD) : pay m c .bar 0 3 ⊢ bigSepL ((agIdx 0).map fun x => Atom.yDst x.1 x.2.1 0 x.2.2) (res m c) := by
  rw [pay_bar, handed3, (sgn_eq c).2.2]; exact handed_dst m c 0

theorem barrier_give (c : Dev nD) :
    iprop((pay m c .bar 0 0 ∗ pay m c .bar 0 1 ∗ pay m c .bar 0 2 ∗ pay m c .bar 0 3) ∗ atPos ER (cell c .bar) 1 ∅ 0 ∗ reached ER (cell c .bar) 1)
      ⊢ bigSepL Ev.barrier.give (res m c) := by
  rw [show Ev.barrier.give = .pos .bar 1 :: handedTo from rfl, bigSepL_cons', handedTo, bigSepL_append, bigSepL_append,
    show res m c (.pos .bar 1) = iprop(atPos ER (cell c .bar) 1 ∅ 0 ∗ reached ER (cell c .bar) 1) from rfl]
  have h1 : iprop(pay m c .bar 0 0 ∗ pay m c .bar 0 1 ∗ pay m c .bar 0 2 ∗ pay m c .bar 0 3)
      ⊢ iprop((bigSepL (rsIdx.map fun x => Atom.inDst x.1 x.2.1 x.2.2) (res m c) ∗ bigSepL ((agIdx 1).map fun x => Atom.yDst x.1 x.2.1 1 x.2.2) (res m c))
        ∗ bigSepL ((agIdx 0).map fun x => Atom.yDst x.1 x.2.1 0 x.2.2) (res m c)) := by
    iintro ⟨H0, -, H2, H3⟩
    isplitl [H0 H2]
    · isplitl [H0]
      · iapply (pay_bar0 m c); iexact H0
      · iapply (pay_bar2 m c); iexact H2
    · iapply (pay_bar3 m c); iexact H3
  exact BIBase.Entails.trans (sep_mono_left h1) sep_comm.1

theorem barrier_ok (c : Dev nD) : StepOk m Kn c .barrier :=
  wait_step m Kn c .barrier (k := .bar) rfl rfl (r := 0) Nat.one_pos (w := .semWait barSem 4) (n := 4)
    (fun _ => rfl) (wpE_semWait_eq 𝒱₀ (c : Thread nD τ) none Set.univ) rfl BIBase.Entails.rfl (by rw [Rd_rest_bar]; exact barrier_give m c)

theorem signal_ok (c : Dev nD) (i : Fin 4) : StepOk m Kn c (.signal i) := fun l P Q hl => by
  have hpay : bigSepL (handed i) (res m c) = (Rd m).payload (cell (nbr c i) .bar) 0 i := by
    rw [Rd_payload, pay_bar, sgn_nbr, handed_data]
  rw [show bigSepL (Ev.signal i).need (res m c) = bigSepL (.tokSig i :: handed i) (res m c) from rfl, bigSepL_cons', hpay,
    show res m c (.tokSig i) = dutyTok ER (cell (nbr c i) .bar) 0 i from rfl,
    show step c gamM (.signal i) P = .op (.semSignal (nbr c i : Thread nD τ) barSem 1) fun _ => P from rfl]
  unfold owed
  rw [show owedL c (.signal i :: l) = owedL c l + tallyAt (cell (nbr c i) .bar) () 1 from rfl,
    show bigSepL (Ev.signal i).give (res m c) = iprop(emp) from rfl]
  have hW : ∀ W : Waits sig Unit, iprop(cellInv ER (Rd m) (Kn (nbr c i, .bar)) (cell (nbr c i) .bar)
      ∗ owes (c : Thread nD τ) (owedL c l + tallyAt (cell (nbr c i) .bar) () 1) W
      ∗ dutyTok ER (cell (nbr c i) .bar) 0 i ∗ (Rd m).payload (cell (nbr c i) .bar) 0 i ∗ reached ER (cell (nbr c i) .bar) 0)
      ⊢ iprop((owes (c : Thread nD τ) (owedL c l) W -∗ WP c P Q) -∗ WP c (.op (.semSignal (nbr c i : Thread nD τ) barSem ((1 : ℕ) : ℤ)) fun _ => P) Q) := fun W =>
    Rounds.wp_signal 𝒱₀ ER (Rd m) (c : Thread nD τ) none (dst := (nbr c i : Thread nD τ)) (sem := barSem) (κ := Kn (nbr c i, .bar)) (k' := 1)
      (k := fun _ => P) (Q := Q) (Es := Set.univ) (W := W)
      (d := i) (duty_mem m (k := .bar) Nat.one_pos (Or.inl rfl) (nbr c i)) (Rd_amount m (nbr c i) .bar 0 i) () (owedL c l) rfl
  iintro ⟨#Hc, ⟨Ht, Hpay⟩, ⟨%W₀, Ho⟩⟩ Hk
  iapply (hW W₀) $$ [Ho Ht Hpay]
  · isplitr; · iapply (ctx_inv m Kn (nbr c i) .bar); iexact Hc
    isplitl [Ho]; · iexact Ho
    isplitl [Ht]; · iexact Ht
    isplitl [Hpay]; · iexact Hpay
    iapply (ctx_reached m Kn (nbr c i) .bar); iexact Hc
  iintro Ho
  iapply Hk
  isplitr
  · iempintro
  iexists W₀; iexact Ho

end Cert.Fused
end
-- ==== Proof.Moves.lean ====
/- The copies: what a copy on a device needs and leaves, and what a copy to another device does. -/
module

public import proofs.«01_k».proof.Proof.Steps

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## Writes that leave nothing of the old contents -/

theorem write_base {κ : Kind} {sp : Space} {s : Shape} {e : EltTy} (v : View sig κ sp s e) (f f' : v.ty.Contents (Elt F))
    (w : s.Idx → Elt F e) {i : v.ty.Idx} (hi : i ∈ v.set) :
    v.write (Elt F) f w Finset.univ i = v.write (Elt F) f' w Finset.univ i := by
  obtain ⟨x, -, rfl⟩ := Finset.mem_map.mp hi
  rw [View.write_emb_of_mem _ _ (Finset.mem_univ x), View.write_emb_of_mem _ _ (Finset.mem_univ x)]

/-! ## A copy on the device -/

theorem copy_step (c : Dev nD) (e : Ev) (hp : e.pays = none) {k : CK} {r : ℕ} (hr : r < k.rounds)
    {sp sp' : Space} {s : Shape} {el : EltTy} {src : Memref sig .tc sp s el} {dst : Memref sig .tc sp' s el} {q : PosShare TreeShare}
    {fs : Buf (Elt F) (src.view.loc (c : Thread nD τ))} {hsrc : src.view.WordExact} {hdst : dst.view.WordExact}
    {hsem : DmaTarget.Typed (nD := nD) (τ := τ) sp (csem k) (DmaTarget.here (p := .tc) dst)}
    (hstep : ∀ P : Prog (TcE F) PUnit, step c gamM e P = .op (.enqueueDma src (.here dst) (csem k) hsrc hdst hsem) fun _ => P)
    (hN : dst.view.amount (csem k) = k.amt)
    (hneed : bigSepL e.need (res m c) ⊢ iprop(∃ fd : Buf (Elt F) (dst.view.loc (c : Thread nD τ)), (src.view.loc (c : Thread nD τ) ↦[src.view.set]{q} fs)
      ∗ (dst.view.loc (c : Thread nD τ) ↦[dst.view.set]{fullShare} fd)
      ∗ dutyTok ER (cell c k) r 0 ∗ atPos ER (cell c k) r ∅ 0 ∗ reached ER (cell c k) r))
    (hpay : ∀ fd : Buf (Elt F) (dst.view.loc (c : Thread nD τ)),
      iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c k r 0)
    (hgive : iprop(cred (tallyAt (cell c k) () k.amt) ∗ atPos ER (cell c k) r ∅ 0 ∗ reached ER (cell c k) r) ⊢ bigSepL e.give (res m c)) :
    StepOk m Kn c e := fun l P Q hl => by
  rw [hstep, owed_skip (F := F) c hp]
  have hW : ∀ fd : Buf (Elt F) (dst.view.loc (c : Thread nD τ)), iprop(cellInv ER (Rd m) (Kn (c, k)) (cell c k)
      ∗ (src.view.loc (c : Thread nD τ) ↦[src.view.set]{q} fs) ∗ (dst.view.loc (c : Thread nD τ) ↦[dst.view.set]{fullShare} fd)
      ∗ dutyTok ER (cell c k) r 0 ∗ reached ER (cell c k) r)
      ⊢ iprop((cred (tallyAt (cell c k) () k.amt) -∗ WP c P Q)
        -∗ WP c (.op (.enqueueDma src (.here dst) (csem k) hsrc hdst hsem) fun _ => P) Q) := fun fd =>
    Rounds.wp_copy_pointsTo 𝒱₀ ER (Rd m) (c : Thread nD τ) none (κ := Kn (c, k)) (k := fun _ => P) (Q := Q) (Es := Set.univ)
      (hsrc := hsrc) (hdst := hdst) (hsem := hsem) (fd := fd) (duty_mem m hr (Or.inr rfl) c) () k.amt hN (Rd_amount m c k r 0)
      (by rw [show ((c : Thread nD τ), csem k) = cell c k from rfl, Rd_payload]; exact hpay fd)
  iintro ⟨#Hc, Hn, Ho⟩ Hk
  ihave Hn := hneed $$ Hn
  icases Hn with ⟨%fd, Hs, Hd, Ht, Ha, #Hr⟩
  iapply (hW fd) $$ [Hs Hd Ht]
  · isplitr; · iapply (ctx_inv m Kn c k); iexact Hc
    isplitl [Hs]; · iexact Hs
    isplitl [Hd]; · iexact Hd
    isplitl [Ht]; · iexact Ht
    iexact Hr
  iintro Hcr
  iapply Hk
  isplitr [Ho]
  · iapply hgive
    isplitl [Hcr]; · iexact Hcr
    isplitl [Ha]; · iexact Ha
    iexact Hr
  iexact Ho

/-! ## A copy to another device -/

theorem send_step (c c' : Dev nD) (e : Ev) {k₁ k₂ : CK} (hp : e.pays = some k₂) (ht : tgt c e = c')
    (hr₁ : 0 < k₁.rounds) (hr₂ : 0 < k₂.rounds)
    {sp sp' : Space} {s : Shape} {el : EltTy} {src : Memref sig .tc sp s el} {dst : Memref sig .tc sp' s el} {q : PosShare TreeShare}
    {hsc : dst.view.ref.isScScratch = false}
    {fs : Buf (Elt F) (src.view.loc (c : Thread nD τ))} {hsrc : src.view.WordExact} {hdst : dst.view.WordExact}
    {hsem : DmaTarget.Typed sp (csem k₂) (.remote (c' : Thread nD τ) dst (csem k₁) hsc)}
    (hstep : ∀ P : Prog (TcE F) PUnit, step c gamM e P = .op (.enqueueDma src (.remote (c' : Thread nD τ) dst (csem k₁) hsc) (csem k₂) hsrc hdst hsem) fun _ => P)
    (hN : dst.view.amount (csem k₂) = k₂.amt) (hk : k₁.amt = k₂.amt)
    (hneed : bigSepL e.need (res m c) ⊢ iprop(∃ fd : Buf (Elt F) (dst.view.loc (c' : Thread nD τ)), (src.view.loc (c : Thread nD τ) ↦[src.view.set]{q} fs)
      ∗ (dst.view.loc (c' : Thread nD τ) ↦[dst.view.set]{fullShare} fd)
      ∗ dutyTok ER (cell c k₁) 0 0 ∗ dutyTok ER (cell c' k₂) 0 0))
    (hpay₁ : (src.view.loc (c : Thread nD τ) ↦[src.view.set]{q} fs) ⊢ pay m c k₁ 0 0)
    (hpay₂ : ∀ fd : Buf (Elt F) (dst.view.loc (c' : Thread nD τ)),
      (dst.view.loc (c' : Thread nD τ) ↦[dst.view.set]{fullShare} (dst.view.write (Elt F) fd (src.view.read (Elt F) fs) Finset.univ))
        ⊢ pay m c' k₂ 0 0)
    (hgive : (cred (tallyAt (cell c k₁) () k₁.amt) : sProp 𝕄) ⊢ bigSepL e.give (res m c)) :
    StepOk m Kn c e := fun l P Q hl => by
  subst ht
  rw [hstep]
  unfold owed
  rw [show owedL c (e :: l) = owedL c l + tallyAt (cell (tgt c e) k₂) () k₂.amt from by
    rw [owedL, owe1, hp]]
  have hW : ∀ (fd : Buf (Elt F) (dst.view.loc (tgt c e : Thread nD τ))) (W : Waits sig Unit),
      iprop(cellInv ER (Rd m) (Kn (c, k₁)) (cell c k₁) ∗ cellInv ER (Rd m) (Kn (tgt c e, k₂)) (cell (tgt c e) k₂)
      ∗ (src.view.loc (c : Thread nD τ) ↦[src.view.set]{q} fs) ∗ (dst.view.loc (tgt c e : Thread nD τ) ↦[dst.view.set]{fullShare} fd)
      ∗ owes (c : Thread nD τ) (owedL c l + tallyAt (cell (tgt c e) k₂) () k₂.amt) W
      ∗ dutyTok ER (cell c k₁) 0 0 ∗ reached ER (cell c k₁) 0
      ∗ dutyTok ER (cell (tgt c e) k₂) 0 0 ∗ reached ER (cell (tgt c e) k₂) 0)
      ⊢ iprop(((cred (tallyAt (cell c k₁) () k₂.amt) ∗ owes (c : Thread nD τ) (owedL c l) W) -∗ WP c P Q)
        -∗ WP c (.op (.enqueueDma src (.remote (tgt c e : Thread nD τ) dst (csem k₁) hsc) (csem k₂) hsrc hdst hsem) fun _ => P) Q) := fun fd W =>
    Rounds.wp_send_pointsTo 𝒱₀ ER (Rd m) (c : Thread nD τ) none (c' := (tgt c e : Thread nD τ)) (fd := fd) (κ₁ := Kn (c, k₁)) (κ₂ := Kn (tgt c e, k₂))
      (k := fun _ => P) (Q := Q) (Es := Set.univ) (hsc := hsc) (hsrc := hsrc) (hdst := hdst) (hsem := hsem) (W := W)
      (duty_mem m hr₁ (Or.inr rfl) c) (duty_mem m hr₂ (Or.inr rfl) (tgt c e)) () () k₂.amt hN
      ((Rd_amount m c k₁ 0 0).trans hk) (Rd_amount m (tgt c e) k₂ 0 0) (owedL c l) rfl
      (by rw [show ((c : Thread nD τ), csem k₁) = cell c k₁ from rfl, Rd_payload]; exact hpay₁)
      (by rw [show ((tgt c e : Thread nD τ), csem k₂) = cell (tgt c e) k₂ from rfl, Rd_payload]; exact hpay₂ fd)
  rw [hk] at hgive
  iintro ⟨#Hc, Hn, ⟨%W, Ho⟩⟩ Hk
  ihave Hn := hneed $$ Hn
  icases Hn with ⟨%fd, Hs, Hd, Ht₁, Ht₂⟩
  iapply (hW fd W) $$ [Hs Hd Ht₁ Ht₂ Ho]
  · isplitr; · iapply (ctx_inv m Kn c k₁); iexact Hc
    isplitr; · iapply (ctx_inv m Kn (tgt c e) k₂); iexact Hc
    isplitl [Hs]; · iexact Hs
    isplitl [Hd]; · iexact Hd
    isplitl [Ho]; · iexact Ho
    isplitl [Ht₁]; · iexact Ht₁
    isplitr; · iapply (ctx_reached m Kn c k₁); iexact Hc
    isplitl [Ht₂]; · iexact Ht₂
    iapply (ctx_reached m Kn (tgt c e) k₂); iexact Hc
  iintro ⟨Hcr, Ho⟩
  iapply Hk
  isplitl [Hcr]
  · iapply hgive; iexact Hcr
  iexists W; iexact Ho

end Cert.Fused
end
-- ==== Proof.Views.lean ====
/- Which elements each memref and each rectangle touches. -/
module

public import proofs.«01_k».proof.Proof.Contents

@[expose] public section

noncomputable section

namespace Cert.Fused

open Idealize.ShloMosaic Idealize.SL.Sem Cert.KernelIdeal Cert.KernelIdeal.Gen
open Idealize.ShloMosaic.TcCoe

variable {F : FTy → Type} [FloatOps F]

/-! ## The elements of each memref -/

theorem mem_out (t : Fin 4) (i : S2048x2048.Idx) : i ∈ (outT t).view.set ↔ (i 0).val / 512 = t.val := by
  rw [show (outT t).view.set = (rRow t).set from View.set_slice_whole _ _, Rect.mem_set_unit]
  have h1 : (i 1).val < 2048 := (i 1).isLt
  constructor
  · intro h
    have h0 : 512 * t.val ≤ (i 0).val ∧ (i 0).val < 512 * t.val + 512 := h 0
    omega
  · intro h a
    match a with
    | ⟨0, _⟩ => show 512 * t.val ≤ (i 0).val ∧ (i 0).val < 512 * t.val + 512; omega
    | ⟨1, _⟩ => show 0 ≤ (i 1).val ∧ (i 1).val < 0 + 2048; omega

theorem mem_tile (g j : Fin 2) (i : S2x2x1024x256.Idx) : i ∈ (tileT g j).view.set ↔ (i 0).val = g.val ∧ (i 1).val = j.val := by
  rw [show (tileT g j).view.set = (Rect.unit (s := S2x2x1024x256) (tileOff g j) S1x1x1024x256.size (tileOff_inb g j)).set from
    (View.set_reshape _ _).trans (View.set_slice_whole _ _), Rect.mem_set_unit]
  have h2 : (i 2).val < 1024 := (i 2).isLt
  have h3 : (i 3).val < 256 := (i 3).isLt
  constructor
  · intro h
    have h0 : g.val ≤ (i 0).val ∧ (i 0).val < g.val + 1 := h 0
    have h1 : j.val ≤ (i 1).val ∧ (i 1).val < j.val + 1 := h 1
    omega
  · intro h a
    match a with
    | ⟨0, _⟩ => show g.val ≤ (i 0).val ∧ (i 0).val < g.val + 1; omega
    | ⟨1, _⟩ => show j.val ≤ (i 1).val ∧ (i 1).val < j.val + 1; omega
    | ⟨2, _⟩ => show 0 ≤ (i 2).val ∧ (i 2).val < 0 + 1024; omega
    | ⟨3, _⟩ => show 0 ≤ (i 3).val ∧ (i 3).val < 0 + 256; omega

theorem mem_rTile (g : Fin 2) (h : Fin 4) (s : Fin 8) (i : S2x2x1024x256.Idx) :
    i ∈ (tileM.access (rTile g h s)).set ↔ (i 0).val = g.val ∧ (i 1).val = h.val % 2 ∧ (i 2).val / 128 = s.val := by
  rw [show (tileM.access (rTile g h s)).set = (rTile g h s).set from View.set_slice_whole _ _, Rect.mem_set_unit]
  have h3 : (i 3).val < 256 := (i 3).isLt
  constructor
  · intro h'
    have h0 : g.val ≤ (i 0).val ∧ (i 0).val < g.val + 1 := h' 0
    have h1 : h.val % 2 ≤ (i 1).val ∧ (i 1).val < h.val % 2 + 1 := h' 1
    have h2 : 128 * s.val ≤ (i 2).val ∧ (i 2).val < 128 * s.val + 128 := h' 2
    omega
  · intro h' a
    match a with
    | ⟨0, _⟩ => show g.val ≤ (i 0).val ∧ (i 0).val < g.val + 1; omega
    | ⟨1, _⟩ => show h.val % 2 ≤ (i 1).val ∧ (i 1).val < h.val % 2 + 1; omega
    | ⟨2, _⟩ => show 128 * s.val ≤ (i 2).val ∧ (i 2).val < 128 * s.val + 128; omega
    | ⟨3, _⟩ => show 0 ≤ (i 3).val ∧ (i 3).val < 0 + 256; omega

theorem mem_rSend (g : Fin 2) (s : Fin 8) (i : S2x1024x256.Idx) : i ∈ (rSend g s).set ↔ (i 0).val = g.val ∧ (i 1).val / 128 = s.val := by
  rw [Rect.mem_set_unit]
  have h2 : (i 2).val < 256 := (i 2).isLt
  constructor
  · intro h
    have h0 : g.val ≤ (i 0).val ∧ (i 0).val < g.val + 1 := h 0
    have h1 : 128 * s.val ≤ (i 1).val ∧ (i 1).val < 128 * s.val + 128 := h 1
    omega
  · intro h a
    match a with
    | ⟨0, _⟩ => show g.val ≤ (i 0).val ∧ (i 0).val < g.val + 1; omega
    | ⟨1, _⟩ => show 128 * s.val ≤ (i 1).val ∧ (i 1).val < 128 * s.val + 128; omega
    | ⟨2, _⟩ => show 0 ≤ (i 2).val ∧ (i 2).val < 0 + 256; omega

theorem set_send (g : Fin 2) (s : Fin 8) : (sendT g s).view.set = (rSend g s).set :=
  (View.set_reshape _ _).trans (View.set_slice_whole _ _)
theorem set_send_access (g : Fin 2) (s : Fin 8) : (sendM.access (rSend g s)).set = (rSend g s).set := View.set_slice_whole _ _

theorem mem_rIn (g : Fin 2) (h : Fin 3) (s : Fin 8) (i : S2x3x1024x256.Idx) :
    i ∈ (rIn g h s).set ↔ (i 0).val = g.val ∧ (i 1).val = h.val ∧ (i 2).val / 128 = s.val := by
  rw [Rect.mem_set_unit]
  have h3 : (i 3).val < 256 := (i 3).isLt
  constructor
  · intro h'
    have h0 : g.val ≤ (i 0).val ∧ (i 0).val < g.val + 1 := h' 0
    have h1 : h.val ≤ (i 1).val ∧ (i 1).val < h.val + 1 := h' 1
    have h2 : 128 * s.val ≤ (i 2).val ∧ (i 2).val < 128 * s.val + 128 := h' 2
    omega
  · intro h' a
    match a with
    | ⟨0, _⟩ => show g.val ≤ (i 0).val ∧ (i 0).val < g.val + 1; omega
    | ⟨1, _⟩ => show h.val ≤ (i 1).val ∧ (i 1).val < h.val + 1; omega
    | ⟨2, _⟩ => show 128 * s.val ≤ (i 2).val ∧ (i 2).val < 128 * s.val + 128; omega
    | ⟨3, _⟩ => show 0 ≤ (i 3).val ∧ (i 3).val < 0 + 256; omega

theorem set_in (g : Fin 2) (h : Fin 3) (s : Fin 8) : (inT g h s).view.set = (rIn g h s).set :=
  (View.set_reshape _ _).trans (View.set_slice_whole _ _)
theorem set_in_access (g : Fin 2) (h : Fin 3) (s : Fin 8) : (inM.access (rIn g h s)).set = (rIn g h s).set := View.set_slice_whole _ _

theorem mem_rFin (c : Dev nD) (g : Fin 2) (s : Fin 8) (i : S2048x2048.Idx) :
    i ∈ (yM.access (rFin c g s)).set ↔ (i 0).val / 128 = 8 * g.val + s.val ∧ (i 1).val / 256 = (col c 0).val := by
  rw [show (yM.access (rFin c g s)).set = (rFin c g s).set from View.set_slice_whole _ _, Rect.mem_set_unit, finOff_col]
  constructor
  · intro h
    have h0 : 1024 * g.val + 128 * s.val ≤ (i 0).val ∧ (i 0).val < 1024 * g.val + 128 * s.val + 128 := h 0
    have h1 : 256 * (col c 0).val ≤ (i 1).val ∧ (i 1).val < 256 * (col c 0).val + 256 := h 1
    omega
  · intro h a
    match a with
    | ⟨0, _⟩ => show 1024 * g.val + 128 * s.val ≤ (i 0).val ∧ (i 0).val < 1024 * g.val + 128 * s.val + 128; omega
    | ⟨1, _⟩ => show 256 * (col c 0).val ≤ (i 1).val ∧ (i 1).val < 256 * (col c 0).val + 256; omega

theorem mem_rStg (j : Fin 2) (i : S2x512x2048.Idx) : i ∈ (rStg j).set ↔ (i 0).val = j.val := by
  rw [Rect.mem_set_unit]
  have h1 : (i 1).val < 512 := (i 1).isLt
  have h2 : (i 2).val < 2048 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 512; omega
    | ⟨2, _⟩ => show 0 ≤ (i 2).val ∧ (i 2).val < 0 + 2048; omega

theorem set_stg (j : Fin 2) : (stgT j).view.set = (rStg j).set := (View.set_reshape _ _).trans (View.set_slice_whole _ _)
theorem set_stg_access (j : Fin 2) : (stgM.access (rStg j)).set = (rStg j).set := View.set_slice_whole _ _

theorem tile_sub (g : Fin 2) (h : Fin 4) (s : Fin 8) : (tileM.access (rTile g h s)).set ⊆ (tileT g (sl h)).view.set := fun i hi => by
  have := (mem_rTile g h s i).mp hi
  exact (mem_tile g (sl h) i).mpr ⟨this.1, this.2.1⟩

theorem fin_sub (c : Dev nD) (g : Fin 2) (s : Fin 8) (r : Fin 4) (hr : r.val = 2 * g.val + s.val / 4) :
    (yM.access (rFin c g s)).set ⊆ ySet r (col c 0) := fun i hi => by
  have h := (mem_rFin c g s i).mp hi
  have h0 : (i 0).val < 2048 := (i 0).isLt
  refine Finset.mem_filter.mpr ⟨Finset.mem_univ _, ?_, h.2⟩
  omega

/-- The rows of a block, all columns. -/
def rowSet (r : Fin 4) : Finset S2048x2048.Idx := Finset.univ.filter fun i => (i 0).val / 512 = r.val

theorem row_sub (t : Fin 4) : (yM.access (rRow t)).set = rowSet t := by
  ext i
  rw [show (yM.access (rRow t)).set = (outT t).view.set from (View.set_slice_whole _ _).trans (View.set_slice_whole _ _).symm]
  exact (mem_out t i).trans (by rw [rowSet, Finset.mem_filter]; exact (and_iff_right (Finset.mem_univ _)).symm)

theorem col_surj : ∀ (c : Dev nD) (q : Fin 8), ∃ j, col c j = q := by decide +kernel

theorem row_cols (c : Dev nD) (r : Fin 4) : rowSet r = Finset.univ.biUnion fun j : Fin 8 => ySet r (col c j) := by
  ext i
  simp only [rowSet, ySet, Finset.mem_filter, Finset.mem_univ, _root_.true_and, Finset.mem_biUnion]
  constructor
  · intro h
    have h1 : (i 1).val < 2048 := (i 1).isLt
    obtain ⟨j, hj⟩ := col_surj c ⟨(i 1).val / 256, by omega⟩
    exact ⟨j, h, by rw [hj]⟩
  · rintro ⟨j, h, -⟩; exact h

theorem cols_disjoint (c : Dev nD) (r : Fin 4) (j j' : Fin 8) (hj : j ≠ j') : Disjoint (ySet r (col c j)) (ySet r (col c j')) := by
  rw [Finset.disjoint_left]
  intro i h h'
  simp only [ySet, Finset.mem_filter, Finset.mem_univ, _root_.true_and] at h h'
  exact hj (col_inj c j j' (Fin.ext (h.2.symm.trans h'.2)))

end Cert.Fused
end
-- ==== Proof.Copies.lean ====
/- The four kinds of copies are sound. -/
module

public import proofs.«01_k».proof.Proof.Moves
public import proofs.«01_k».proof.Proof.Views

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

theorem load_pay (c : Dev nD) (g : Fin 2) (h : Fin 4) (fd : (cc0_scratch2 : Ref sig .tc).ty.Contents (Elt F)) :
    iprop(tileP c g (sl h) ((tileT g (sl h)).view.write (Elt F) fd ((xSrc c g h).view.read (Elt F) (xBuf m c)) Finset.univ) ∗ xP m c g h)
      ⊢ pay m c (.ld g (sl h)) (h.val / 2) 0 := by
  rw [show pay m c (.ld g (sl h)) (h.val / 2) 0
      = iprop(resD m c (.tile g (hOf (h.val / 2) (sl h))) ∗ resD m c (.x g (hOf (h.val / 2) (sl h)))) from rfl, hOf_sl,
    show resD m c (.tile g h) = tileP c g (sl h) (tileV m c g h) from rfl, show resD m c (.x g h) = xP m c g h from rfl]
  refine sep_mono_left (BIBase.Entails.of_eq ?_)
  unfold tileP
  exact pointsTo_congr fun i hi => write_base _ _ _ _ hi

/-- What the slot a tile is read into holds before. -/
def prevTile (g : Fin 2) (h : Fin 4) : Atom :=
  match h with
  | ⟨0, _⟩ => .tileAny g 0
  | ⟨1, _⟩ => .tileAny g 1
  | ⟨j+2, _⟩ => .tile g ⟨j, by omega⟩

theorem tile_any (c : Dev nD) (g : Fin 2) {h h' : Fin 4} (e : sl h' = sl h) (f : (cc0_scratch2 : Ref sig .tc).ty.Contents (Elt F)) :
    tileP c g (sl h') f ⊢ (iprop(∃ f, tileP c g (sl h) f) : sProp 𝕄) := by
  rw [e]; iintro H; iexists f; iexact H

theorem load_prev (c : Dev nD) (g : Fin 2) (h : Fin 4) : res m c (prevTile g h) ⊢ iprop(∃ f, tileP c g (sl h) f) := by
  match h with
  | ⟨0, _⟩ => exact BIBase.Entails.rfl
  | ⟨1, _⟩ => exact BIBase.Entails.rfl
  | ⟨2, _⟩ => exact tile_any c g (h := ⟨2, by omega⟩) (h' := ⟨0, by omega⟩) (Fin.ext (show (0 : ℕ) % 2 = 2 % 2 from rfl)) (tileV m c g ⟨0, by omega⟩)
  | ⟨3, _⟩ => exact tile_any c g (h := ⟨3, by omega⟩) (h' := ⟨1, by omega⟩) (Fin.ext (show (1 : ℕ) % 2 = 3 % 2 from rfl)) (tileV m c g ⟨1, by omega⟩)

theorem load_ok (c : Dev nD) (g : Fin 2) (h : Fin 4) : StepOk m Kn c (.load g h) := by
  have hr : h.val / 2 < (CK.ld g (sl h)).rounds := by show h.val / 2 < 2; omega
  refine copy_step m Kn c (.load g h) rfl (k := .ld g (sl h)) hr (src := xSrc c g h) (dst := tileT g (sl h)) (q := fullShare.left)
    (fs := xBuf m c) (fun _ => rfl) rfl ?_ (fun fd => load_pay m c g h fd) BIBase.Entails.rfl
  have hp := load_prev m c g h
  rw [show bigSepL (Ev.load g h).need (res m c) = iprop(xP m c g h
      ∗ res m c (prevTile g h)
      ∗ dutyTok ER (cell c (.ld g (sl h))) (h.val / 2) 0
      ∗ atPos ER (cell c (.ld g (sl h))) (h.val / 2) ∅ 0 ∗ reached ER (cell c (.ld g (sl h))) (h.val / 2)) from by
      match h with | ⟨0, _⟩ => rfl | ⟨1, _⟩ => rfl | ⟨j+2, _⟩ => rfl]
  unfold xP
  unfold tileP at hp
  iintro ⟨Hx, Ht, Hr⟩
  ihave Ht := hp $$ Ht
  icases Ht with ⟨%f, Ht⟩
  iexists f
  isplitl [Hx]; · iexact Hx
  isplitl [Ht]; · iexact Ht
  iexact Hr

theorem cred_st (t : Fin 4) : (outT t).view.dmaCredit = (outT 0).view.dmaCredit := rfl

theorem store_pay (c : Dev nD) (t : Fin 4) (fd : (main_v1 : Ref sig .tc).ty.Contents (Elt F)) :
    iprop(outP c t ((outT t).view.write (Elt F) fd ((stgT (sl t)).view.read (Elt F) (stgV m c t)) Finset.univ) ∗ stgP c (sl t) (stgV m c t))
      ⊢ pay m c (.st (sl t)) (t.val / 2) 0 := by
  rw [show pay m c (.st (sl t)) (t.val / 2) 0
      = iprop(resD m c (.out (hOf (t.val / 2) (sl t))) ∗ resD m c (.stg (hOf (t.val / 2) (sl t)))) from rfl, hOf_sl,
    show resD m c (.out t) = outP c t (outV m c) from rfl, show resD m c (.stg t) = stgP c (sl t) (stgV m c t) from rfl]
  refine sep_mono_left (BIBase.Entails.of_eq ?_)
  unfold outP
  refine pointsTo_congr fun i hi => ?_
  rw [write_base _ fd (m ((c : Thread nD τ).loc main_v1)) _ hi]
  have ht : (⟨(show S2048x2048.Idx from i) 0 / 512 % 4, Nat.mod_lt _ (by decide)⟩ : Fin 4) = t :=
    Fin.ext ((congrArg (· % 4) ((mem_out t i).mp hi)).trans (Nat.mod_eq_of_lt t.isLt))
  exact congrFun (congrArg (outW m c) ht.symm) i

theorem store_ok (c : Dev nD) (t : Fin 4) : StepOk m Kn c (.store t) := by
  have hr : t.val / 2 < (CK.st (sl t)).rounds := by show t.val / 2 < 2; omega
  refine copy_step m Kn c (.store t) rfl (k := .st (sl t)) hr (src := stgT (sl t)) (dst := outT t) (q := fullShare)
    (fs := stgV m c t) (fun _ => rfl) (cred_st t) ?_ (fun fd => store_pay m c t fd) BIBase.Entails.rfl
  rw [show bigSepL (Ev.store t).need (res m c) = iprop(stgP c (sl t) (stgV m c t) ∗ (∃ f, outP c t f)
      ∗ dutyTok ER (cell c (.st (sl t))) (t.val / 2) 0
      ∗ atPos ER (cell c (.st (sl t))) (t.val / 2) ∅ 0 ∗ reached ER (cell c (.st (sl t))) (t.val / 2)) from rfl]
  unfold stgP outP
  iintro ⟨Hx, ⟨%f, Ht⟩, Hr⟩
  iexists f
  isplitl [Hx]; · iexact Hx
  isplitl [Ht]; · iexact Ht
  iexact Hr

theorem rsStart_pay (c : Dev nD) (g : Fin 2) (h : Fin 3) (s : Fin 8) (fd : (cc0_scratch1 : Ref sig .tc).ty.Contents (Elt F)) :
    inP (right c) g h s ((inT g h s).view.write (Elt F) fd ((sendT g s).view.read (Elt F) (sendV m c g h s)) Finset.univ)
      ⊢ pay m (right c) (.rsR g h s) 0 0 := by
  rw [show pay m (right c) (.rsR g h s) 0 0 = inP (right c) g h s (landV m (right c) g h s (sendV m (left (right c)) g h s)) from rfl, left_right]
  refine BIBase.Entails.of_eq ?_
  unfold inP
  exact pointsTo_congr fun i hi => write_base _ _ _ _ hi

theorem rsStart_ok (c : Dev nD) (g : Fin 2) (h : Fin 3) (s : Fin 8) : StepOk m Kn c (.rsStart g h s) := by
  refine send_step m Kn c (right c) (.rsStart g h s) (k₁ := .rsS g h s) (k₂ := .rsR g h s) rfl rfl Nat.one_pos Nat.one_pos
    (src := sendT g s) (dst := inT g h s) (q := fullShare) (fs := sendV m c g h s) (fun _ => rfl) rfl rfl ?_
    BIBase.Entails.rfl (fun fd => rsStart_pay m c g h s fd) BIBase.Entails.rfl
  rw [show bigSepL (Ev.rsStart g h s).need (res m c) = iprop(sendP c g s (sendV m c g h s) ∗ (∃ f, inP (right c) g h s f)
      ∗ dutyTok ER (cell c (.rsS g h s)) 0 0 ∗ dutyTok ER (cell (right c) (.rsR g h s)) 0 0) from rfl]
  unfold sendP inP
  iintro ⟨Hx, ⟨%f, Ht⟩, Hr⟩
  iexists f
  isplitl [Hx]; · iexact Hx
  isplitl [Ht]; · iexact Ht
  iexact Hr

/-- The share a ring step sends from. -/
def agShare (k : Fin 4) (w : Fin 2) : PosShare TreeShare := if k = 0 then half w else fullShare

theorem agSrc_res (c : Dev nD) (g : Fin 2) (k : Fin 4) (w s : Fin 2) :
    resD m c (agSrc g k w s) = yP c (yr g s) (col c (jSend k w)) (agShare k w) (yV m c) := by
  match k with
  | ⟨0, _⟩ =>
    rw [show (⟨0, by omega⟩ : Fin 4) = 0 from rfl, jSend_zero]; rfl
  | ⟨j+1, hj⟩ =>
    rw [agShare, if_neg (by intro h; exact absurd (congrArg Fin.val h) (Nat.succ_ne_zero j))]; rfl

theorem yV_ringTo (c : Dev nD) (w : Fin 2) : yV m (ringTo c w) = yV m c := by
  funext i
  unfold yV
  rw [owner_ringTo]

theorem agStart_pay (c : Dev nD) (g : Fin 2) (k : Fin 4) (w s : Fin 2) (hv : Valid k w) (fd : (cc0_scratch3 : Ref sig .tc).ty.Contents (Elt F)) :
    ((yT c g k w s).view.loc (ringTo c w : Thread nD τ) ↦[(yT c g k w s).view.set]{fullShare}
        ((yT c g k w s).view.write (Elt F) fd ((yT c g k w s).view.read (Elt F) (yV m c)) Finset.univ))
      ⊢ (pay m (ringTo c w) (.agR g k w s) 0 0 : sProp 𝕄) := by
  rw [show pay m (ringTo c w) (.agR g k w s) 0 0 = yP (ringTo c w) (yr g s) (col (ringTo c w) (jRecv k w)) fullShare (yV m (ringTo c w)) from rfl,
    yV_ringTo, col_ringTo c k w hv, View.write_read_eq_piecewise, View.setOn_univ]
  refine BIBase.Entails.of_eq ?_
  unfold yP
  rw [show ySet (yr g s) (col c (jSend k w)) = (yT c g k w s).view.set from (view_set_y c g k w s).symm]
  exact pointsTo_congr fun i hi => Finset.piecewise_eq_of_mem _ _ _ hi

theorem agStart_ok (c : Dev nD) (g : Fin 2) (k : Fin 4) (w s : Fin 2) : StepOk m Kn c (.agStart g k w s) := by
  have hneed : bigSepL (Ev.agStart g k w s).need (res m c) = iprop(res m c (agSrc g k w s)
      ∗ (∃ f, yP (ringTo c w) (yr g s) (col c (jSend k w)) fullShare f)
      ∗ ⌜Valid k w⌝ ∗ dutyTok ER (cell c (.agS g k w s)) 0 0 ∗ dutyTok ER (cell (ringTo c w) (.agR g k w s)) 0 0) := rfl
  by_cases hv : Valid k w
  · have hr : 0 < (CK.agS g k w s).rounds := by show 0 < if k = 3 ∧ w = 1 then 0 else 1; rw [if_neg hv]; exact Nat.one_pos
    have hr' : 0 < (CK.agR g k w s).rounds := by show 0 < if k = 3 ∧ w = 1 then 0 else 1; rw [if_neg hv]; exact Nat.one_pos
    refine send_step m Kn c (ringTo c w) (.agStart g k w s) (k₁ := .agS g k w s) (k₂ := .agR g k w s) rfl rfl hr hr'
      (src := yT c g k w s) (dst := yT c g k w s) (q := agShare k w) (fs := yV m c) (fun _ => rfl) rfl rfl ?_ ?_
      (fun fd => agStart_pay m c g k w s hv fd) ?_
    · rw [hneed, show res m c (agSrc g k w s) = resD m c (agSrc g k w s) from by match k with | ⟨0, _⟩ => rfl | ⟨j+1, _⟩ => rfl, agSrc_res]
      unfold yP
      rw [show ySet (yr g s) (col c (jSend k w)) = (yT c g k w s).view.set from (view_set_y c g k w s).symm]
      iintro ⟨Hx, ⟨%f, Ht⟩, -, Hr⟩
      iexists f
      isplitl [Hx]; · iexact Hx
      isplitl [Ht]; · iexact Ht
      iexact Hr
    · rw [show pay m c (.agS g k w s) 0 0 = resD m c (agSrc g k w s) from rfl, agSrc_res]
      unfold yP
      rw [show ySet (yr g s) (col c (jSend k w)) = (yT c g k w s).view.set from (view_set_y c g k w s).symm]
    · rw [show bigSepL (Ev.agStart g k w s).give (res m c) = iprop(⌜Valid k w⌝ ∗ cred (tallyAt (cell c (.agS g k w s)) () (CK.agS g k w s).amt)) from rfl]
      iintro H
      isplitr
      · ipureintro; exact hv
      iexact H
  · refine step_absurd m Kn c _ ?_
    rw [hneed]
    iintro ⟨-, -, ⟨%h, -⟩⟩
    exact absurd h hv

end Cert.Fused
end
-- ==== Proof.Local.lean ====
/- The partial sums: loads and stores of the parts, and the events that add what landed to the own tile. -/
module

public import proofs.«01_k».proof.Proof.Moves
public import proofs.«01_k».proof.Proof.Views

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## Loads and stores of the parts -/

theorem tile_load (c : Dev nD) (g : Fin 2) (h : Fin 4) (s : Fin 8) (f : (cc0_scratch2 : Ref sig .tc).ty.Contents (Elt F))
    {hl : tileM.view.LoadsAt (rTile g h s).toLoadRect} {K : (S1x1x128x256.Idx → Elt F .f32) → Prog (TcE F) PUnit} {Q : PUnit → sProp 𝕄} :
    tileP c g (sl h) f ⊢ iprop((tileP c g (sl h) f -∗ WP c (K (tileM.view.readAt (Elt F) (rTile g h s).toLoadRect f)) Q)
      -∗ WP c (.op (.load tileM (rTile g h s).toLoadRect hl) K) Q) :=
  wp_load_rect 𝒱₀ (c : Thread nD τ) none Set.univ (m := tileM) (r := rTile g h s) (hl := hl) (k := K) (f := f) (tile_sub g h s)

theorem in_load (c : Dev nD) (g : Fin 2) (h : Fin 3) (s : Fin 8) (f : (cc0_scratch1 : Ref sig .tc).ty.Contents (Elt F))
    {hl : inM.view.LoadsAt (rIn g h s).toLoadRect} {K : (S1x1x128x256.Idx → Elt F .bf16) → Prog (TcE F) PUnit} {Q : PUnit → sProp 𝕄} :
    inP c g h s f ⊢ iprop((inP c g h s f -∗ WP c (K (inM.view.readAt (Elt F) (rIn g h s).toLoadRect f)) Q)
      -∗ WP c (.op (.load inM (rIn g h s).toLoadRect hl) K) Q) :=
  wp_load_rect 𝒱₀ (c : Thread nD τ) none Set.univ (m := inM) (r := rIn g h s) (hl := hl) (k := K) (f := f)
    (S := (inT g h s).view.set) (by rw [set_in_access]; exact subset_of_eq (set_in g h s).symm)

theorem send_load (c : Dev nD) (g : Fin 2) (s : Fin 8) (f : (cc0_scratch0 : Ref sig .tc).ty.Contents (Elt F))
    {hl : sendM.view.LoadsAt (rSend g s).toLoadRect} {K : (S1x128x256.Idx → Elt F .bf16) → Prog (TcE F) PUnit} {Q : PUnit → sProp 𝕄} :
    sendP c g s f ⊢ iprop((sendP c g s f -∗ WP c (K (sendM.view.readAt (Elt F) (rSend g s).toLoadRect f)) Q)
      -∗ WP c (.op (.load sendM (rSend g s).toLoadRect hl) K) Q) :=
  wp_load_rect 𝒱₀ (c : Thread nD τ) none Set.univ (m := sendM) (r := rSend g s) (hl := hl) (k := K) (f := f)
    (S := (sendT g s).view.set) (by rw [set_send_access]; exact subset_of_eq (set_send g s).symm)

theorem send_store (c : Dev nD) (g : Fin 2) (s : Fin 8) (f : (cc0_scratch0 : Ref sig .tc).ty.Contents (Elt F)) (w : S1x128x256.Idx → Elt F .bf16)
    {hx : (sendM.access (rSend g s)).Stores Finset.univ} {hm} {P : Prog (TcE F) PUnit} {Q : PUnit → sProp 𝕄} :
    sendP c g s f ⊢ iprop((sendP c g s ((sendM.access (rSend g s)).write (Elt F) f w Finset.univ) -∗ WP c P Q)
      -∗ WP c (.op (.store sendM (rSend g s) w Finset.univ hx hm) fun _ => P) Q) :=
  wp_store 𝒱₀ (c : Thread nD τ) none Set.univ (m := sendM) (r := rSend g s) (w := w) (Mk := Finset.univ) (hx := hx) (hm := hm) (k := fun _ => P) (f := f)
    (S := (sendT g s).view.set) (by rw [View.setOn_univ, set_send_access]; exact subset_of_eq (set_send g s).symm)

theorem fin_load (c : Dev nD) (g : Fin 2) (s : Fin 8) (r : Fin 4) (hr : r.val = 2 * g.val + s.val / 4) (f : (cc0_scratch3 : Ref sig .tc).ty.Contents (Elt F))
    {hl : yM.view.LoadsAt (rFin c g s).toLoadRect} {K : (S128x256.Idx → Elt F .bf16) → Prog (TcE F) PUnit} {Q : PUnit → sProp 𝕄} :
    yP c r (col c 0) fullShare f ⊢ iprop((yP c r (col c 0) fullShare f -∗ WP c (K (yM.view.readAt (Elt F) (rFin c g s).toLoadRect f)) Q)
      -∗ WP c (.op (.load yM (rFin c g s).toLoadRect hl) K) Q) :=
  wp_load_rect 𝒱₀ (c : Thread nD τ) none Set.univ (m := yM) (r := rFin c g s) (hl := hl) (k := K) (f := f) (fin_sub c g s r hr)

theorem fin_store (c : Dev nD) (g : Fin 2) (s : Fin 8) (r : Fin 4) (hr : r.val = 2 * g.val + s.val / 4) (f : (cc0_scratch3 : Ref sig .tc).ty.Contents (Elt F))
    (w : S128x256.Idx → Elt F .bf16)
    {hx : (yM.access (rFin c g s)).Stores Finset.univ} {hm} {P : Prog (TcE F) PUnit} {Q : PUnit → sProp 𝕄} :
    yP c r (col c 0) fullShare f ⊢ iprop((yP c r (col c 0) fullShare ((yM.access (rFin c g s)).write (Elt F) f w Finset.univ) -∗ WP c P Q)
      -∗ WP c (.op (.store yM (rFin c g s) w Finset.univ hx hm) fun _ => P) Q) :=
  wp_store 𝒱₀ (c : Thread nD τ) none Set.univ (m := yM) (r := rFin c g s) (w := w) (Mk := Finset.univ) (hx := hx) (hm := hm) (k := fun _ => P) (f := f)
    (by rw [View.setOn_univ]; exact fin_sub c g s r hr)

theorem row_load (c : Dev nD) (t : Fin 4) (f : (cc0_scratch3 : Ref sig .tc).ty.Contents (Elt F))
    {hl : yM.view.LoadsAt (rRow t).toLoadRect} {K : (S512x2048.Idx → Elt F .bf16) → Prog (TcE F) PUnit} {Q : PUnit → sProp 𝕄} :
    (yM.view.loc (c : Thread nD τ) ↦[rowSet t]{fullShare} f)
      ⊢ iprop(((yM.view.loc (c : Thread nD τ) ↦[rowSet t]{fullShare} f) -∗ WP c (K (yM.view.readAt (Elt F) (rRow t).toLoadRect f)) Q)
      -∗ WP c (.op (.load yM (rRow t).toLoadRect hl) K) Q) :=
  wp_load_rect 𝒱₀ (c : Thread nD τ) none Set.univ (m := yM) (r := rRow t) (hl := hl) (k := K) (f := f) (subset_of_eq (row_sub t))

theorem gam_load (c : Dev nD) {hl : gamM.view.LoadsAt rGam.toLoadRect} {K : (S2048.Idx → Elt F .f32) → Prog (TcE F) PUnit} {Q : PUnit → sProp 𝕄} :
    gamP m c ⊢ iprop((gamP m c -∗ WP c (K (gamM.view.readAt (Elt F) rGam.toLoadRect (gBuf m c))) Q)
      -∗ WP c (.op (.load gamM rGam.toLoadRect hl) K) Q) :=
  wp_load_rect 𝒱₀ (c : Thread nD τ) none Set.univ (m := gamM) (r := rGam) (hl := hl) (k := K) (f := gBuf m c) (Finset.subset_univ _)

theorem stg_load (c : Dev nD) (i : Fin 2) (f : (cc0_scratch4 : Ref sig .tc).ty.Contents (Elt F))
    {hl : stgM.view.LoadsAt (rStg i).toLoadRect} {K : (S1x512x2048.Idx → Elt F .f32) → Prog (TcE F) PUnit} {Q : PUnit → sProp 𝕄} :
    stgP c i f ⊢ iprop((stgP c i f -∗ WP c (K (stgM.view.readAt (Elt F) (rStg i).toLoadRect f)) Q)
      -∗ WP c (.op (.load stgM (rStg i).toLoadRect hl) K) Q) :=
  wp_load_rect 𝒱₀ (c : Thread nD τ) none Set.univ (m := stgM) (r := rStg i) (hl := hl) (k := K) (f := f)
    (S := (stgT i).view.set) (by rw [set_stg_access]; exact subset_of_eq (set_stg i).symm)

theorem stg_store (c : Dev nD) (i : Fin 2) (f : (cc0_scratch4 : Ref sig .tc).ty.Contents (Elt F)) (w : S1x512x2048.Idx → Elt F .f32)
    {hx : (stgM.access (rStg i)).Stores Finset.univ} {hm} {P : Prog (TcE F) PUnit} {Q : PUnit → sProp 𝕄} :
    stgP c i f ⊢ iprop((stgP c i ((stgM.access (rStg i)).write (Elt F) f w Finset.univ) -∗ WP c P Q)
      -∗ WP c (.op (.store stgM (rStg i) w Finset.univ hx hm) fun _ => P) Q) :=
  wp_store 𝒱₀ (c : Thread nD τ) none Set.univ (m := stgM) (r := rStg i) (w := w) (Mk := Finset.univ) (hx := hx) (hm := hm) (k := fun _ => P) (f := f)
    (S := (stgT i).view.set) (by rw [View.setOn_univ, set_stg_access]; exact subset_of_eq (set_stg i).symm)

/-! ## The partial sums -/

theorem sendP_base (c : Dev nD) (g : Fin 2) (s : Fin 8) (f f' : (cc0_scratch0 : Ref sig .tc).ty.Contents (Elt F)) (w : S1x128x256.Idx → Elt F .bf16) :
    sendP c g s ((sendM.access (rSend g s)).write (Elt F) f w Finset.univ)
      = (sendP c g s ((sendM.access (rSend g s)).write (Elt F) f' w Finset.univ) : sProp 𝕄) := by
  unfold sendP
  refine pointsTo_congr fun i hi => write_base _ _ _ _ ?_
  rw [set_send_access, ← set_send]; exact hi

theorem sendV_zero (c : Dev nD) (g : Fin 2) (s : Fin 8) :
    sendV m c g 0 s = (sendM.access (rSend g s)).write (Elt F) (m ((c : Thread nD τ).loc cc0_scratch0))
      (k0_pay3 (tileM.view.readAt (Elt F) (rTile g 0 s).toLoadRect (tileV m c g 0))) Finset.univ := by
  unfold sendV
  exact sendN.eq_1 m c g s (by decide)

theorem sendV_succ (c : Dev nD) (g : Fin 2) (j : ℕ) (hj : j + 1 < 3) (h3 : j < 3) (h4 : j + 1 < 4) (s : Fin 8) :
    sendV m c g ⟨j + 1, hj⟩ s = (sendM.access (rSend g s)).write (Elt F) (m ((c : Thread nD τ).loc cc0_scratch0))
      (k0_pay16 (inM.view.readAt (Elt F) (rIn g ⟨j, h3⟩ s).toLoadRect (inV m c g ⟨j, h3⟩ s))
        (tileM.view.readAt (Elt F) (rTile g ⟨j + 1, h4⟩ s).toLoadRect (tileV m c g ⟨j + 1, h4⟩))) Finset.univ := by
  unfold sendV inV sendV
  exact sendN.eq_2 m c g s j hj

theorem stage0_ok (c : Dev nD) (g : Fin 2) (s : Fin 8) : StepOk m Kn c (.stage g 0 s) := fun l P Q hl => by
  have hgive : ∀ f, sendP c g s ((sendM.access (rSend g s)).write (Elt F) f
      (k0_pay3 (tileM.view.readAt (Elt F) (rTile g 0 s).toLoadRect (tileV m c g 0))) Finset.univ) ⊢ sendP c g s (sendV m c g 0 s) := fun f => by
    rw [sendV_zero, sendP_base c g s f]
  rw [owed_skip (F := F) c rfl,
    show bigSepL (Ev.stage g 0 s).need (res m c) = iprop(tileP c g (sl 0) (tileV m c g 0) ∗ ∃ f, sendP c g s f) from rfl,
    show bigSepL (Ev.stage g 0 s).give (res m c) = iprop(tileP c g (sl 0) (tileV m c g 0) ∗ sendP c g s (sendV m c g 0 s)) from rfl]
  iintro ⟨-, ⟨Ht, ⟨%f, Hs⟩⟩, Ho⟩ Hk
  iapply (tile_load c g 0 s (tileV m c g 0)) $$ Ht
  iintro Ht
  iapply (send_load c g s f) $$ Hs
  iintro Hs
  iapply (send_store c g s f _) $$ Hs
  iintro Hs
  iapply Hk
  isplitr [Ho]
  · isplitl [Ht]; · iexact Ht
    iapply (hgive f); iexact Hs
  iexact Ho

theorem stageS_ok (c : Dev nD) (g : Fin 2) (j : ℕ) (hj : j + 1 < 3) (h3 : j < 3) (h4 : j + 1 < 4) (s : Fin 8) :
    StepOk m Kn c (.stage g ⟨j + 1, hj⟩ s) := fun l P Q hl => by
  have hgive : ∀ f, sendP c g s ((sendM.access (rSend g s)).write (Elt F) f
      (k0_pay16 (inM.view.readAt (Elt F) (rIn g ⟨j, h3⟩ s).toLoadRect (inV m c g ⟨j, h3⟩ s))
        (tileM.view.readAt (Elt F) (rTile g ⟨j + 1, h4⟩ s).toLoadRect (tileV m c g ⟨j + 1, h4⟩))) Finset.univ)
      ⊢ sendP c g s (sendV m c g ⟨j + 1, hj⟩ s) := fun f => by
    rw [sendV_succ m c g j hj h3 h4, sendP_base c g s f]
  rw [owed_skip (F := F) c rfl,
    show bigSepL (Ev.stage g ⟨j + 1, hj⟩ s).need (res m c) = iprop(tileP c g (sl ⟨j + 1, h4⟩) (tileV m c g ⟨j + 1, h4⟩)
      ∗ sendP c g s (sendV m c g ⟨j, h3⟩ s) ∗ inP c g ⟨j, h3⟩ s (inV m c g ⟨j, h3⟩ s)) from rfl,
    show bigSepL (Ev.stage g ⟨j + 1, hj⟩ s).give (res m c) = iprop(tileP c g (sl ⟨j + 1, h4⟩) (tileV m c g ⟨j + 1, h4⟩)
      ∗ sendP c g s (sendV m c g ⟨j + 1, hj⟩ s) ∗ inP c g ⟨j, h3⟩ s (inV m c g ⟨j, h3⟩ s)) from rfl]
  iintro ⟨-, ⟨Ht, Hs, Hi⟩, Ho⟩ Hk
  iapply (in_load c g ⟨j, h3⟩ s (inV m c g ⟨j, h3⟩ s)) $$ Hi
  iintro Hi
  iapply (tile_load c g ⟨j + 1, h4⟩ s (tileV m c g ⟨j + 1, h4⟩)) $$ Ht
  iintro Ht
  iapply (send_load c g s (sendV m c g ⟨j, h3⟩ s)) $$ Hs
  iintro Hs
  iapply (send_store c g s (sendV m c g ⟨j, h3⟩ s) _) $$ Hs
  iintro Hs
  iapply Hk
  isplitr [Ho]
  · isplitl [Ht]; · iexact Ht
    isplitl [Hs]
    · iapply (hgive (sendV m c g ⟨j, h3⟩ s)); iexact Hs
    iexact Hi
  iexact Ho

theorem stage_ok (c : Dev nD) (g : Fin 2) (h : Fin 3) (s : Fin 8) : StepOk m Kn c (.stage g h s) := by
  match h with
  | ⟨0, _⟩ => exact stage0_ok m Kn c g s
  | ⟨j+1, hj⟩ => exact stageS_ok m Kn c g j hj (by omega) (by omega) s

end Cert.Fused
end
-- ==== Proof.Norm.lean ====
/- The own block of y, and the normalised rows. -/
module

public import proofs.«01_k».proof.Proof.Local

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## The own block of `y` -/

/-- The rows of the own block written so far, a piece at a time. -/
theorem fin_write (c : Dev nD) (g : Fin 2) (s : Fin 8) (r : Fin 4) (hr : r.val = 2 * g.val + s.val / 4)
    (f : (cc0_scratch3 : Ref sig .tc).ty.Contents (Elt F))
    (hf : ∀ x ∈ ySet r (col c 0), (x 0).val / 128 % 4 < s.val % 4 → f x = yV m c x) :
    ∀ x ∈ ySet r (col c 0), (x 0).val / 128 % 4 < s.val % 4 + 1 →
      (yM.access (rFin c g s)).write (Elt F) f
        (k0_pay30 (inM.view.readAt (Elt F) (rIn g 2 s).toLoadRect (inV m c g 2 s))
          (tileM.view.readAt (Elt F) (rTile g 3 s).toLoadRect (tileV m c g 3))) Finset.univ x = yV m c x := fun x hx hlt => by
  have hx' := (Finset.mem_filter.mp hx).2
  have hs := s.isLt
  by_cases hm : x ∈ (yM.access (rFin c g s)).set
  · have hm' := (mem_rFin c g s x).mp hm
    have h0 : (x 0).val < 2048 := (x 0).isLt
    have e1 : owner c ⟨(x 1).val / 256 % 8, Nat.mod_lt _ (by decide)⟩ = c := by
      rw [show (⟨(x 1).val / 256 % 8, Nat.mod_lt _ (by decide)⟩ : Fin 8) = col c 0 from
        Fin.ext (by show (x 1).val / 256 % 8 = _; have := (col c 0).isLt; omega), owner_col0]
    have e2 : (⟨(x 0).val / 1024 % 2, Nat.mod_lt _ (by decide)⟩ : Fin 2) = g :=
      Fin.ext (by show (x 0).val / 1024 % 2 = _; have := g.isLt; omega)
    have e3 : (⟨(x 0).val / 128 % 8, Nat.mod_lt _ (by decide)⟩ : Fin 8) = s :=
      Fin.ext (by show (x 0).val / 128 % 8 = _; omega)
    have e : yV m c x = finV m c g s x := by
      unfold yV
      rw [e1, e2, e3]
    rw [e]
    exact write_base _ _ _ _ hm
  · rw [View.write_of_not_mem _ _ _ (by rw [View.setOn_univ]; exact hm)]
    refine hf x hx ?_
    have : (x 0).val / 128 % 4 ≠ s.val % 4 := fun he => hm ((mem_rFin c g s x).mpr ⟨by have := r.isLt; have := g.isLt; omega, hx'.2⟩)
    omega

theorem half_split (c : Dev nD) (r : Fin 4) (q : Fin 8) (f : (cc0_scratch3 : Ref sig .tc).ty.Contents (Elt F)) :
    (yP c r q fullShare f : sProp 𝕄) ⊢ iprop(yP c r q (half 0) f ∗ yP c r q (half 1) f) := by
  unfold yP
  rw [show half 0 = fullShare.left from if_pos rfl, show half 1 = fullShare.right from if_neg (by decide)]
  exact (pointsTo_share (PosShare.mem_left_op_right fullShare)).mp

theorem half_join (c : Dev nD) (r : Fin 4) (q : Fin 8) (f : (cc0_scratch3 : Ref sig .tc).ty.Contents (Elt F)) :
    iprop(yP c r q (half 0) f ∗ yP c r q (half 1) f) ⊢ (yP c r q fullShare f : sProp 𝕄) := by
  unfold yP
  rw [show half 0 = fullShare.left from if_pos rfl, show half 1 = fullShare.right from if_neg (by decide)]
  exact (pointsTo_share (PosShare.mem_left_op_right fullShare)).mpr

theorem yP_congr (c : Dev nD) (r : Fin 4) (q : Fin 8) {f f' : (cc0_scratch3 : Ref sig .tc).ty.Contents (Elt F)}
    (h : ∀ x ∈ ySet r q, f x = f' x) : (yP c r q fullShare f : sProp 𝕄) ⊢ yP c r q fullShare f' := by
  unfold yP
  rw [pointsTo_congr h]

theorem finish_need (c : Dev nD) (g : Fin 2) (s : Fin 8) (h1 : s.val / 4 < 2) (h2 : s.val % 4 < 4) :
    bigSepL (Ev.finish g s).need (res m c) = iprop(inP c g 2 s (inV m c g 2 s) ∗ tileP c g (sl 3) (tileV m c g 3)
      ∗ ∃ f, ⌜∀ x ∈ ySet (yr g ⟨s.val / 4, h1⟩) (col c 0), (x 0).val / 128 % 4 < s.val % 4 → f x = yV m c x⌝
        ∗ yP c (yr g ⟨s.val / 4, h1⟩) (col c 0) fullShare f) := rfl

theorem finish_give (c : Dev nD) (g : Fin 2) (s : Fin 8) (h1 : s.val / 4 < 2) (f : (cc0_scratch3 : Ref sig .tc).ty.Contents (Elt F))
    (hf : ∀ x ∈ ySet (yr g ⟨s.val / 4, h1⟩) (col c 0), (x 0).val / 128 % 4 < s.val % 4 + 1 → f x = yV m c x) :
    iprop(inP c g 2 s (inV m c g 2 s) ∗ tileP c g (sl 3) (tileV m c g 3) ∗ yP c (yr g ⟨s.val / 4, h1⟩) (col c 0) fullShare f)
      ⊢ bigSepL (Ev.finish g s).give (res m c) := by
  by_cases hs : s.val % 4 < 3
  · rw [show (Ev.finish g s).give = [.inn g 2 s, .tile g 3, .yPart g ⟨s.val / 4, h1⟩ ⟨s.val % 4 + 1, by omega⟩] from
      congrArg ([Atom.inn g 2 s, .tile g 3] ++ ·) (dif_pos hs)]
    rw [show bigSepL [.inn g 2 s, .tile g 3, .yPart g ⟨s.val / 4, h1⟩ ⟨s.val % 4 + 1, by omega⟩] (res m c)
      = iprop(inP c g 2 s (inV m c g 2 s) ∗ tileP c g (sl 3) (tileV m c g 3)
      ∗ ∃ f, ⌜∀ x ∈ ySet (yr g ⟨s.val / 4, h1⟩) (col c 0), (x 0).val / 128 % 4 < s.val % 4 + 1 → f x = yV m c x⌝
        ∗ yP c (yr g ⟨s.val / 4, h1⟩) (col c 0) fullShare f) from rfl]
    iintro ⟨Hi, Ht, Hy⟩
    isplitl [Hi]; · iexact Hi
    isplitl [Ht]; · iexact Ht
    iexists f
    isplitr; · ipureintro; exact hf
    iexact Hy
  · rw [show (Ev.finish g s).give = [.inn g 2 s, .tile g 3, .yHalf g ⟨s.val / 4, h1⟩ 0, .yHalf g ⟨s.val / 4, h1⟩ 1] from
      congrArg ([Atom.inn g 2 s, .tile g 3] ++ ·) (dif_neg hs)]
    rw [show bigSepL [.inn g 2 s, .tile g 3, .yHalf g ⟨s.val / 4, h1⟩ 0, .yHalf g ⟨s.val / 4, h1⟩ 1] (res m c)
      = iprop(inP c g 2 s (inV m c g 2 s) ∗ tileP c g (sl 3) (tileV m c g 3)
      ∗ yP c (yr g ⟨s.val / 4, h1⟩) (col c 0) (half 0) (yV m c) ∗ yP c (yr g ⟨s.val / 4, h1⟩) (col c 0) (half 1) (yV m c)) from rfl]
    have hy := BIBase.Entails.trans (yP_congr (F := F) c (yr g ⟨s.val / 4, h1⟩) (col c 0) (f := f) (f' := yV m c) fun x hx => hf x hx (by omega))
      (half_split (F := F) c (yr g ⟨s.val / 4, h1⟩) (col c 0) (yV m c))
    iintro ⟨Hi, Ht, Hy⟩
    isplitl [Hi]; · iexact Hi
    isplitl [Ht]; · iexact Ht
    iapply hy; iexact Hy

theorem finish_ok (c : Dev nD) (g : Fin 2) (s : Fin 8) : StepOk m Kn c (.finish g s) := fun l P Q hl => by
  have h1 : s.val / 4 < 2 := by omega
  have h2 : s.val % 4 < 4 := by omega
  rw [owed_skip (F := F) c rfl, finish_need m c g s h1 h2]
  iintro ⟨-, ⟨Hi, Ht, ⟨%f, %hf, Hy⟩⟩, Ho⟩ Hk
  iapply (in_load c g 2 s (inV m c g 2 s)) $$ Hi
  iintro Hi
  iapply (tile_load c g 3 s (tileV m c g 3)) $$ Ht
  iintro Ht
  iapply (fin_load c g s (yr g ⟨s.val / 4, h1⟩) rfl f) $$ Hy
  iintro Hy
  iapply (fin_store c g s (yr g ⟨s.val / 4, h1⟩) rfl f _) $$ Hy
  iintro Hy
  iapply Hk
  isplitr [Ho]
  · iapply (finish_give m c g s h1 _ (fin_write m c g s (yr g ⟨s.val / 4, h1⟩) rfl f hf))
    isplitl [Hi]; · iexact Hi
    isplitl [Ht]; · iexact Ht
    iexact Hy
  iexact Ho

/-! ## Normalising rows -/

theorem row_split (c : Dev nD) (t : Fin 4) (f : (cc0_scratch3 : Ref sig .tc).ty.Contents (Elt F)) :
    (yM.view.loc (c : Thread nD τ) ↦[rowSet t]{fullShare} f : sProp 𝕄)
      = bigSepL [0, 1, 2, 3, 4, 5, 6, 7] fun j : Fin 8 => yP c t (col c j) fullShare f := by
  rw [row_cols c t]
  refine Eq.trans (pointsTo_biUnion (ℓ := yM.view.loc (c : Thread nD τ)) (q := fullShare) (f := f) Finset.univ
    (fun j : Fin 8 => ySet t (col c j)) (fun j _ j' _ hj => cols_disjoint c t j j' hj)) ?_
  rw [bigSep_univ_eq_bigSepL [0, 1, 2, 3, 4, 5, 6, 7] (by decide) (by decide)]
  rfl

theorem yRow_res (c : Dev nD) (t : Fin 4) :
    bigSepL (yRow t) (res m c) = iprop(yP c t (col c 0) (half 0) (yV m c) ∗ yP c t (col c 0) (half 1) (yV m c)
      ∗ bigSepL [1, 2, 3, 4, 5, 6, 7] fun j : Fin 8 => yP c t (col c j) fullShare (yV m c)) := by
  have e : ∀ h : t.val / 2 < 2, yr ⟨t.val / 2, h⟩ (sl t) = t := fun h => Fin.ext (by show 2 * (t.val / 2) + t.val % 2 = t.val; omega)
  have h : t.val / 2 < 2 := by omega
  rw [show bigSepL (yRow t) (res m c) = iprop(yP c (yr ⟨t.val / 2, h⟩ (sl t)) (col c 0) (half 0) (yV m c)
      ∗ yP c (yr ⟨t.val / 2, h⟩ (sl t)) (col c 0) (half 1) (yV m c)
      ∗ bigSepL [1, 2, 3, 4, 5, 6, 7] fun j : Fin 8 => yP c (yr ⟨t.val / 2, h⟩ (sl t)) (col c j) fullShare (yV m c)) from rfl, e]

theorem row_open (c : Dev nD) (t : Fin 4) :
    bigSepL (yRow t) (res m c) ⊢ (yM.view.loc (c : Thread nD τ) ↦[rowSet t]{fullShare} yV m c : sProp 𝕄) := by
  rw [yRow_res, row_split, bigSepL_cons' 0]
  have hj := half_join (F := F) c t (col c 0) (yV m c)
  iintro ⟨H0, H1, Hr⟩
  isplitl [H0 H1]
  · iapply hj; isplitl [H0] <;> iassumption
  iexact Hr

theorem row_close (c : Dev nD) (t : Fin 4) :
    (yM.view.loc (c : Thread nD τ) ↦[rowSet t]{fullShare} yV m c : sProp 𝕄) ⊢ bigSepL (yRow t) (res m c) := by
  rw [yRow_res, row_split, bigSepL_cons' 0]
  have hj := half_split (F := F) c t (col c 0) (yV m c)
  iintro ⟨H0, Hr⟩
  ihave H0 := hj $$ H0
  icases H0 with ⟨H0, H1⟩
  isplitl [H0]; · iexact H0
  isplitl [H1]; · iexact H1
  iexact Hr

theorem norm_need (c : Dev nD) (t : Fin 4) :
    bigSepL (Ev.norm t).need (res m c) ⊢ iprop(gamP m c ∗ (∃ f, stgP c (sl t) f) ∗ bigSepL (yRow t) (res m c)) := by
  match t with
  | ⟨0, h⟩ =>
    rw [show bigSepL (Ev.norm ⟨0, h⟩).need (res m c) = iprop(gamP m c ∗ (∃ f, stgP c 0 f) ∗ bigSepL (yRow ⟨0, h⟩) (res m c)) from rfl,
      show sl ⟨0, h⟩ = 0 from Fin.ext (show 0 % 2 = (0 : ℕ) from rfl)]
  | ⟨1, h⟩ =>
    rw [show bigSepL (Ev.norm ⟨1, h⟩).need (res m c) = iprop(gamP m c ∗ (∃ f, stgP c 1 f) ∗ bigSepL (yRow ⟨1, h⟩) (res m c)) from rfl,
      show sl ⟨1, h⟩ = 1 from Fin.ext (show 1 % 2 = (1 : ℕ) from rfl)]
  | ⟨j+2, h⟩ =>
    have h' : j < 4 := by omega
    rw [show bigSepL (Ev.norm ⟨j+2, h⟩).need (res m c) = iprop(gamP m c ∗ stgP c (sl ⟨j, h'⟩) (stgV m c ⟨j, h'⟩) ∗ bigSepL (yRow ⟨j+2, h⟩) (res m c)) from rfl,
      show sl ⟨j+2, h⟩ = sl ⟨j, h'⟩ from Fin.ext (show (j + 2) % 2 = j % 2 by omega)]
    iintro ⟨Hg, Hs, Hy⟩
    isplitl [Hg]; · iexact Hg
    isplitl [Hs]; · iexists _; iexact Hs
    iexact Hy

theorem stgP_write (c : Dev nD) (i : Fin 2) (f f' : (cc0_scratch4 : Ref sig .tc).ty.Contents (Elt F)) (w : S1x512x2048.Idx → Elt F .f32) :
    stgP c i ((stgM.access (rStg i)).write (Elt F) f w Finset.univ)
      = (stgP c i ((stgM.access (rStg i)).write (Elt F) f' w Finset.univ) : sProp 𝕄) := by
  unfold stgP
  refine pointsTo_congr fun x hx => write_base _ _ _ _ ?_
  rw [set_stg_access, ← set_stg]; exact hx

theorem stgP_base (c : Dev nD) (t : Fin 4) (f : (cc0_scratch4 : Ref sig .tc).ty.Contents (Elt F)) :
    (stgP c (sl t) ((stgM.access (rStg (sl t))).write (Elt F) f
      (k0_pay80 (yM.view.readAt (Elt F) (rRow t).toLoadRect (yV m c)) (gamM.view.readAt (Elt F) rGam.toLoadRect (gBuf m c))) Finset.univ) : sProp 𝕄)
      ⊢ stgP c (sl t) (stgV m c t) := by
  unfold stgV
  rw [stgP_write c (sl t) f (m ((c : Thread nD τ).loc cc0_scratch4))]

theorem norm_ok (c : Dev nD) (t : Fin 4) : StepOk m Kn c (.norm t) := fun l P Q hl => by
  rw [owed_skip (F := F) c rfl,
    show bigSepL (Ev.norm t).give (res m c) = iprop(gamP m c ∗ stgP c (sl t) (stgV m c t) ∗ bigSepL (yRow t) (res m c)) from rfl]
  iintro ⟨-, Hn, Ho⟩ Hk
  ihave Hn := (norm_need m c t) $$ Hn
  icases Hn with ⟨Hg, ⟨%f, Hs⟩, Hy⟩
  ihave Hy := (row_open m c t) $$ Hy
  iapply (row_load c t (yV m c)) $$ Hy
  iintro Hy
  iapply (gam_load m c) $$ Hg
  iintro Hg
  iapply (stg_load c (sl t) f) $$ Hs
  iintro Hs
  iapply (stg_store c (sl t) f _) $$ Hs
  iintro Hs
  iapply Hk
  isplitr [Ho]
  · isplitl [Hg]; · iexact Hg
    isplitl [Hs]
    · iapply (stgP_base m c t f); iexact Hs
    iapply (row_close m c t); iexact Hy
  iexact Ho

end Cert.Fused
end
-- ==== Proof.Sound.lean ====
/- The whole program is sound: each event, and the list of events by induction. -/
module

public import proofs.«01_k».proof.Proof.Waits
public import proofs.«01_k».proof.Proof.Barrier
public import proofs.«01_k».proof.Proof.Copies
public import proofs.«01_k».proof.Proof.Norm

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-- Every event is sound. -/
theorem step_ok (c : Dev nD) : ∀ e : Ev, StepOk m Kn c e
  | .load g h => load_ok m Kn c g h
  | .loadW g h => loadW_ok m Kn c g h
  | .signal i => signal_ok m Kn c i
  | .barrier => barrier_ok m Kn c
  | .stage g h s => stage_ok m Kn c g h s
  | .rsStart g h s => rsStart_ok m Kn c g h s
  | .rsRecv g h s => rsRecv_ok m Kn c g h s
  | .rsSent g h s => rsSent_ok m Kn c g h s
  | .finish g s => finish_ok m Kn c g s
  | .agStart g k w s => agStart_ok m Kn c g k w s
  | .agRecv g k w s => agRecv_ok m Kn c g k w s
  | .agSent g k w s => agSent_ok m Kn c g k w s
  | .norm t => norm_ok m Kn c t
  | .store t => store_ok m Kn c t
  | .storeW t => storeW_ok m Kn c t

/-- A list of events that passes the check runs from the parts held at its start to those held at its end. -/
theorem run_sound (c : Dev nD) (Q : PUnit → sProp 𝕄) : ∀ (l : List Ev) {M M' : ℕ}, exec l M = some M' →
    iprop(ctx m Kn ∗ held (res m c) M ∗ owed c l)
      ⊢ iprop(((held (res m c) M' ∗ owed c []) -∗ WP c (.ret ⟨⟩) Q) -∗ WP c (run c gamM l) Q)
  | [], M, M', h => by
    rw [exec] at h; cases h
    rw [show run c gamM [] = (.ret ⟨⟩ : Prog (TcE F) PUnit) from rfl]
    iintro ⟨-, H, Ho⟩ Hk
    iapply Hk
    isplitl [H] <;> iassumption
  | e :: l, M, M', h => by
    rw [exec] at h
    cases hw : waitOk e l with
    | false => rw [hw] at h; cases h
    | true =>
      rw [hw] at h
      obtain ⟨M₁, h₁, h⟩ := Option.bind_eq_some_iff.mp h
      obtain ⟨M₂, h₂, h⟩ := Option.bind_eq_some_iff.mp h
      have ih := run_sound c Q l h
      have ht := take_ok (res m c) e.need h₁
      have hp := put_ok (res m c) e.give h₂
      have hs := step_ok m Kn c e l (run c gamM l) Q hw
      rw [show run c gamM (e :: l) = (step c gamM e (run c gamM l) : Prog (TcE F) PUnit) from rfl]
      iintro ⟨#Hc, H, Ho⟩ Hk
      ihave H := ht $$ H
      icases H with ⟨Hn, H⟩
      iapply hs $$ [Hn Ho]
      · isplitr; · iexact Hc
        isplitl [Hn] <;> iassumption
      iintro ⟨Hg, Ho⟩
      iapply ih $$ [Hg H Ho]
      · isplitr; · iexact Hc
        isplitl [Hg H]
        · iapply hp; isplitl [Hg] <;> iassumption
        iexact Ho
      iexact Hk

/-! ## The parts held at the end -/

theorem CK.rounds_lt (k : CK) : k.rounds < 3 := by
  cases k <;> simp only [CK.rounds] <;> (try split) <;> omega
/-- The round a cell ends at. -/
def CK.last (k : CK) : Fin 3 := ⟨k.rounds, k.rounds_lt⟩

def atomsEnd : List Atom :=
  (ckIdx.map fun k => .pos k k.last) ++
  ((ghIdx.map fun x => .x x.1 x.2) ++ (ggIdx.map fun x => .tile x.1 ⟨2 + x.2.val, by omega⟩) ++ (gsIdx.map fun x => .send x.1 2 x.2) ++
    (rsIdx.map fun x => .inn x.1 x.2.1 x.2.2) ++ [0, 1, 2, 3].flatMap yRow ++ [0, 1, 2, 3].map .out ++
    [0, 1].map (fun i : Fin 2 => .stg ⟨2 + i.val, by omega⟩) ++ [.gam])

theorem check : (((putAll atomsStart 0).bind fun M => exec evs M).bind fun M => takeAll atomsEnd M).isSome = true := by decide +kernel

/-- The whole list runs from the parts of the start to those of the end. -/
theorem evs_sound (c : Dev nD) (Q : PUnit → sProp 𝕄) :
    iprop(ctx m Kn ∗ bigSepL atomsStart (res m c) ∗ owed c evs)
      ⊢ iprop(((bigSepL atomsEnd (res m c) ∗ owed c []) -∗ WP c (.ret ⟨⟩) Q) -∗ WP c (run c gamM evs) Q) := by
  obtain ⟨M₃, h⟩ := Option.isSome_iff_exists.mp check
  obtain ⟨M₂, h, h₃⟩ := Option.bind_eq_some_iff.mp h
  obtain ⟨M₁, h₁, h₂⟩ := Option.bind_eq_some_iff.mp h
  have hs := put_ok (res m c) atomsStart h₁
  rw [held_zero] at hs
  have hr := run_sound m Kn c Q evs h₂
  have he := take_ok (res m c) atomsEnd h₃
  iintro ⟨#Hc, Hs, Ho⟩ Hk
  iapply hr $$ [Hs Ho]
  · isplitr; · iexact Hc
    isplitl [Hs]
    · iapply hs; isplitl [Hs]; · iexact Hs
      iempintro
    iexact Ho
  iintro ⟨H, Ho⟩
  iapply Hk
  isplitl [H]
  · ihave H := he $$ H
    icases H with ⟨H, -⟩
    iexact H
  iexact Ho

end Cert.Fused
end
-- ==== Proof.Pieces.lean ====
/- The buffers of the launch split into the parts the program starts from, and the parts of the end
   joined to the buffers the launch takes back. -/
module

public import proofs.«01_k».proof.Proof.Sound
public import proofs.«01_k».proof.Proof.Views
public import proofs.«01_k».proof.Proof.Norm
public import Idealize.ShloMosaic.Lib.Ring

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## A buffer and its parts -/

/-- Sets told apart by a key are disjoint; -/
theorem key_disjoint {J T : Type} [Fintype T] [DecidableEq J] [DecidableEq T] {S : T → Finset J} (key : J → T) (h : ∀ t i, i ∈ S t ↔ key i = t) :
    ∀ t t', t ≠ t' → Disjoint (S t) (S t') := fun t t' ht => by
  rw [Finset.disjoint_left]
  intro i h₁ h₂
  exact ht (((h t i).mp h₁).symm.trans ((h t' i).mp h₂))
/-- and cover. -/
theorem key_cover {J T : Type} [Fintype J] [Fintype T] [DecidableEq J] [DecidableEq T] {S : T → Finset J} (key : J → T) (h : ∀ t i, i ∈ S t ↔ key i = t) :
    Finset.univ.biUnion S = Finset.univ := by
  ext i
  exact ⟨fun _ => Finset.mem_univ _, fun _ => Finset.mem_biUnion.mpr ⟨key i, Finset.mem_univ _, (h _ i).mpr rfl⟩⟩

section Parts
variable {T : Type} [Fintype T] [DecidableEq T] {ℓ : Loc nD τ sig} (S : T → Finset (Idx ℓ)) (key : Idx ℓ → T)
  (h : ∀ t i, i ∈ S t ↔ key i = t) (l : List T) (hl : Finset.univ = l.toFinset) (hn : l.Nodup)

include key h hl hn in
/-- A buffer is its parts; -/
theorem parts_eq (f : Buf (Elt F) ℓ) : (ℓ ↦{fullShare} f : sProp 𝕄) = bigSepL l fun t => ℓ ↦[S t]{fullShare} f :=
  (Ring.pointsTo_blocks S (key_disjoint key h) (key_cover key h) f).trans (bigSep_univ_eq_bigSepL l hl hn _)

include key h hl hn in
/-- at some contents it gives its parts, each at some contents; -/
theorem parts_split : (iprop(∃ f : Buf (Elt F) ℓ, ℓ ↦{fullShare} f) : sProp 𝕄) ⊢ bigSepL l fun t => iprop(∃ f : Buf (Elt F) ℓ, ℓ ↦[S t]{fullShare} f) := by
  iintro ⟨%f, H⟩
  ihave H := (Entails.of_eq (parts_eq S key h l hl hn f)) $$ H
  iapply (bigSepL_mono (l := l) (Φ := fun t => (ℓ ↦[S t]{fullShare} f : sProp 𝕄)) (Ψ := fun t => iprop(∃ f : Buf (Elt F) ℓ, ℓ ↦[S t]{fullShare} f)) fun t _ => by
    iintro H; iexists f; iexact H)
  iexact H

include key h hl hn in
/-- and the parts give it back. -/
theorem parts_join (f₀ : Buf (Elt F) ℓ) : bigSepL l (fun t => iprop(∃ f : Buf (Elt F) ℓ, ℓ ↦[S t]{fullShare} f)) ⊢ (iprop(∃ f : Buf (Elt F) ℓ, ℓ ↦{fullShare} f) : sProp 𝕄) := by
  rw [← bigSep_univ_eq_bigSepL l hl hn]
  exact Ring.pointsTo_blocks_join_exists S (key_disjoint key h) (key_cover key h) f₀

end Parts

/-! ## The kernel's buffers -/

def sendKey (i : S2x1024x256.Idx) : Fin 2 × Fin 8 := (i 0, ⟨(i 1).val / 128, by have := (i 1).isLt; have : (i 1).val < 1024 := this; omega⟩)
theorem send_key (t : Fin 2 × Fin 8) (i : S2x1024x256.Idx) : i ∈ (sendT t.1 t.2).view.set ↔ sendKey i = t := by
  rw [set_send]
  refine (mem_rSend t.1 t.2 i).trans ?_
  rw [Prod.ext_iff, Fin.ext_iff, Fin.ext_iff]; rfl
def inKey (i : S2x3x1024x256.Idx) : Fin 2 × Fin 3 × Fin 8 := (i 0, i 1, ⟨(i 2).val / 128, by have := (i 2).isLt; have : (i 2).val < 1024 := this; omega⟩)
theorem in_key (t : Fin 2 × Fin 3 × Fin 8) (i : S2x3x1024x256.Idx) : i ∈ (inT t.1 t.2.1 t.2.2).view.set ↔ inKey i = t := by
  rw [set_in]
  refine (mem_rIn t.1 t.2.1 t.2.2 i).trans ?_
  rw [Prod.ext_iff, Prod.ext_iff, Fin.ext_iff, Fin.ext_iff, Fin.ext_iff]; rfl
def tileKey (i : S2x2x1024x256.Idx) : Fin 2 × Fin 2 := (i 0, i 1)
theorem tile_key (t : Fin 2 × Fin 2) (i : S2x2x1024x256.Idx) : i ∈ (tileT t.1 t.2).view.set ↔ tileKey i = t := by
  refine (mem_tile t.1 t.2 i).trans ?_
  rw [Prod.ext_iff, Fin.ext_iff, Fin.ext_iff]; rfl
def stgKey (i : S2x512x2048.Idx) : Fin 2 := i 0
theorem stg_key (t : Fin 2) (i : S2x512x2048.Idx) : i ∈ (stgT t).view.set ↔ stgKey i = t := by
  rw [set_stg]
  refine (mem_rStg t i).trans ?_
  rw [Fin.ext_iff]; rfl
def rowKey (i : S2048x2048.Idx) : Fin 4 := ⟨(i 0).val / 512, by have := (i 0).isLt; have : (i 0).val < 2048 := this; omega⟩
theorem out_key (t : Fin 4) (i : S2048x2048.Idx) : i ∈ (outT t).view.set ↔ rowKey i = t := by
  refine (mem_out t i).trans ?_
  rw [Fin.ext_iff]; rfl
theorem row_key (t : Fin 4) (i : S2048x2048.Idx) : i ∈ rowSet t ↔ rowKey i = t := by
  rw [rowSet, Finset.mem_filter, Fin.ext_iff]
  exact and_iff_right (Finset.mem_univ _)

theorem gsIdx_all : Finset.univ = gsIdx.toFinset ∧ gsIdx.Nodup := by decide +kernel
theorem rsIdx_all : Finset.univ = rsIdx.toFinset ∧ rsIdx.Nodup := by decide +kernel
theorem ggIdx_all : Finset.univ = ggIdx.toFinset ∧ ggIdx.Nodup := by decide +kernel
theorem ghIdx_all : Finset.univ = ghIdx.toFinset ∧ ghIdx.Nodup := by decide +kernel
theorem two_all : (Finset.univ : Finset (Fin 2)) = [0, 1].toFinset ∧ ([0, 1] : List (Fin 2)).Nodup := by decide +kernel
theorem four_all : (Finset.univ : Finset (Fin 4)) = [0, 1, 2, 3].toFinset ∧ ([0, 1, 2, 3] : List (Fin 4)).Nodup := by decide +kernel

/-- A scratch buffer whole, at some contents. -/
abbrev anyAt (c : Dev nD) (b : Ref sig .tc) : sProp 𝕄 := iprop(∃ f : Buf (Elt F) ((c : Thread nD τ).loc b), ((c : Thread nD τ).loc b) ↦{fullShare} f)

theorem send_parts (c : Dev nD) : anyAt (F := F) c cc0_scratch0 ⊢ bigSepL (gsIdx.map fun x => Atom.sendAny x.1 x.2) (res m c) := by
  rw [bigSepL_map]
  exact parts_split (ℓ := (c : Thread nD τ).loc cc0_scratch0) (fun t : Fin 2 × Fin 8 => (sendT t.1 t.2).view.set) sendKey send_key gsIdx gsIdx_all.1 gsIdx_all.2
theorem in_parts (c : Dev nD) : anyAt (F := F) c cc0_scratch1 ⊢ bigSepL (rsIdx.map fun x => Atom.inAny x.1 x.2.1 x.2.2) (res m c) := by
  rw [bigSepL_map]
  exact parts_split (ℓ := (c : Thread nD τ).loc cc0_scratch1) (fun t : Fin 2 × Fin 3 × Fin 8 => (inT t.1 t.2.1 t.2.2).view.set) inKey in_key rsIdx rsIdx_all.1 rsIdx_all.2
theorem tile_parts (c : Dev nD) : anyAt (F := F) c cc0_scratch2 ⊢ bigSepL (ggIdx.map fun x => Atom.tileAny x.1 x.2) (res m c) := by
  rw [bigSepL_map]
  exact parts_split (ℓ := (c : Thread nD τ).loc cc0_scratch2) (fun t : Fin 2 × Fin 2 => (tileT t.1 t.2).view.set) tileKey tile_key ggIdx ggIdx_all.1 ggIdx_all.2
theorem stg_parts (c : Dev nD) : anyAt (F := F) c cc0_scratch4 ⊢ bigSepL ([0, 1].map Atom.stgAny) (res m c) := by
  rw [bigSepL_map]
  exact parts_split (ℓ := (c : Thread nD τ).loc cc0_scratch4) (fun t : Fin 2 => (stgT t).view.set) stgKey stg_key [0, 1] two_all.1 two_all.2
theorem out_parts (c : Dev nD) : anyAt (F := F) c main_v1 ⊢ bigSepL ([0, 1, 2, 3].map Atom.outAny) (res m c) := by
  rw [bigSepL_map]
  exact parts_split (ℓ := (c : Thread nD τ).loc main_v1) (fun t : Fin 4 => (outT t).view.set) rowKey out_key [0, 1, 2, 3] four_all.1 four_all.2

/-! ## The blocks of `y` -/

theorem row_lt (i : S2048x2048.Idx) : (i 0).val / 512 < 4 ∧ (i 1).val / 256 < 8 := by
  have h0 : (i 0).val < 2048 := (i 0).isLt
  have h1 : (i 1).val < 2048 := (i 1).isLt
  omega
/-- The ring distance at which a device has a column. -/
def colAt (c : Dev nD) (q : Fin 8) : Fin 8 := if col c 0 = q then 0 else if col c 1 = q then 1 else if col c 2 = q then 2 else
  if col c 3 = q then 3 else if col c 4 = q then 4 else if col c 5 = q then 5 else if col c 6 = q then 6 else 7
theorem colAt_col : ∀ (c : Dev nD) (q j : Fin 8), col c j = q ↔ colAt c q = j := by decide +kernel
def yKey (c : Dev nD) (i : S2048x2048.Idx) : Fin 2 × Fin 2 × Fin 8 :=
  (⟨(i 0).val / 512 / 2, by have := row_lt i; omega⟩, ⟨(i 0).val / 512 % 2, by omega⟩, colAt c ⟨(i 1).val / 256, (row_lt i).2⟩)
theorem y_key (c : Dev nD) (t : Fin 2 × Fin 2 × Fin 8) (i : S2048x2048.Idx) : i ∈ ySet (yr t.1 t.2.1) (col c t.2.2) ↔ yKey c i = t := by
  obtain ⟨g, s, j⟩ := t
  rw [ySet, Finset.mem_filter, yKey, Prod.ext_iff, Prod.ext_iff, ← colAt_col, Fin.ext_iff, Fin.ext_iff, Fin.ext_iff, and_iff_right (Finset.mem_univ _)]
  show (i 0).val / 512 = 2 * g.val + s.val ∧ (i 1).val / 256 = (col c j).val ↔ (i 0).val / 512 / 2 = g.val ∧ (i 0).val / 512 % 2 = s.val ∧ (col c j).val = (i 1).val / 256
  omega

/-- The blocks of `y` in the order of the parts of the start. -/
def yStart : List (Fin 2 × Fin 2 × Fin 8) :=
  (ggIdx.map fun x => (x.1, x.2, 0)) ++ ((agIdx 0).map fun x => (x.1, x.2.2, jRecv x.2.1 0)) ++ ((agIdx 1).map fun x => (x.1, x.2.2, jRecv x.2.1 1))
theorem yStart_all : Finset.univ = yStart.toFinset ∧ yStart.Nodup := by decide +kernel

theorem y_parts (c : Dev nD) : anyAt (F := F) c cc0_scratch3
    ⊢ bigSepL ((ggIdx.map fun x => Atom.yPart x.1 x.2 0) ++ ((agIdx 0).map fun x => .yAny x.1 x.2.2 (jRecv x.2.1 0)) ++
        ((agIdx 1).map fun x => .yAny x.1 x.2.2 (jRecv x.2.1 1))) (res m c) := by
  refine BIBase.Entails.trans (parts_split (ℓ := (c : Thread nD τ).loc cc0_scratch3) (fun t : Fin 2 × Fin 2 × Fin 8 => ySet (yr t.1 t.2.1) (col c t.2.2))
    (yKey c) (y_key c) yStart yStart_all.1 yStart_all.2) ?_
  rw [yStart, bigSepL_append, bigSepL_append, bigSepL_append, bigSepL_append, bigSepL_map, bigSepL_map, bigSepL_map, bigSepL_map, bigSepL_map, bigSepL_map]
  refine sep_mono (sep_mono (bigSepL_mono fun x _ => ?_) BIBase.Entails.rfl) BIBase.Entails.rfl
  show (iprop(∃ f, yP c (yr x.1 x.2) (col c 0) fullShare f) : sProp 𝕄)
    ⊢ iprop(∃ f, ⌜∀ i ∈ ySet (yr x.1 x.2) (col c 0), (i 0).val / 128 % 4 < 0 → f i = yV m c i⌝ ∗ yP c (yr x.1 x.2) (col c 0) fullShare f)
  iintro ⟨%f, H⟩
  iexists f
  isplitr
  · ipureintro; exact fun i _ h => absurd h (Nat.not_lt_zero _)
  iexact H

/-! ## The tiles of `x` -/

theorem x_apart : ∀ (c : Dev nD) (t t' : Fin 2 × Fin 4), t ≠ t' →
    xOff c t.1 t.2 1 + 1024 ≤ xOff c t'.1 t'.2 1 ∨ xOff c t'.1 t'.2 1 + 1024 ≤ xOff c t.1 t.2 1 := by decide +kernel

abbrev xSet (c : Dev nD) (t : Fin 2 × Fin 4) : Finset S1x8192x2048.Idx := (xSrc c t.1 t.2).view.set

theorem x_disjoint (c : Dev nD) : ∀ t t', t ≠ t' → Disjoint (xSet c t) (xSet c t') := fun t t' ht => by
  have hs : ∀ t : Fin 2 × Fin 4, xSet c t = (Rect.unit (s := S1x8192x2048) (xOff c t.1 t.2) S1x1024x256.size (xOff_inb c t.1 t.2)).set := fun t =>
    (View.set_reshape _ _).trans (View.set_slice_whole _ _)
  rw [hs, hs, Finset.disjoint_left]
  intro i h₁ h₂
  have h₁ : xOff c t.1 t.2 1 ≤ (i 1).val ∧ (i 1).val < xOff c t.1 t.2 1 + 1024 := Rect.mem_set_unit.mp h₁ 1
  have h₂ : xOff c t'.1 t'.2 1 ≤ (i 1).val ∧ (i 1).val < xOff c t'.1 t'.2 1 + 1024 := Rect.mem_set_unit.mp h₂ 1
  have := x_apart c t t' ht
  omega

theorem x_parts (c : Dev nD) : (((c : Thread nD τ).loc main_arg0) ↦{fullShare.left} xBuf m c : sProp 𝕄)
    ⊢ bigSepL (ghIdx.map fun x => Atom.x x.1 x.2) (res m c) := by
  rw [bigSepL_map]
  iintro H
  ihave H := (pointsTo_split_subset (ℓ := (c : Thread nD τ).loc main_arg0) (Finset.subset_univ (Finset.univ.biUnion (xSet c)))).mp $$ H
  icases H with ⟨H, -⟩
  ihave H := (Entails.of_eq ((pointsTo_biUnion (ℓ := (c : Thread nD τ).loc main_arg0) (q := fullShare.left) (f := xBuf m c) Finset.univ (xSet c)
    (fun t _ t' _ h => x_disjoint c t t' h)).trans (bigSep_univ_eq_bigSepL ghIdx ghIdx_all.1 ghIdx_all.2 _))) $$ H
  iexact H

/-! ## The parts of the end -/

theorem send_back (c : Dev nD) : bigSepL (gsIdx.map fun x => Atom.send x.1 2 x.2) (res m c) ⊢ anyAt (F := F) c cc0_scratch0 := by
  rw [bigSepL_map]
  refine BIBase.Entails.trans (bigSepL_mono fun x _ => ?_) (parts_join (ℓ := (c : Thread nD τ).loc cc0_scratch0) (fun t : Fin 2 × Fin 8 => (sendT t.1 t.2).view.set)
    sendKey send_key gsIdx gsIdx_all.1 gsIdx_all.2 (m _))
  show sendP c x.1 x.2 (sendV m c x.1 2 x.2) ⊢ (iprop(∃ f, sendP c x.1 x.2 f) : sProp 𝕄)
  iintro H; iexists _; iexact H
theorem in_back (c : Dev nD) : bigSepL (rsIdx.map fun x => Atom.inn x.1 x.2.1 x.2.2) (res m c) ⊢ anyAt (F := F) c cc0_scratch1 := by
  rw [bigSepL_map]
  refine BIBase.Entails.trans (bigSepL_mono fun x _ => ?_) (parts_join (ℓ := (c : Thread nD τ).loc cc0_scratch1) (fun t : Fin 2 × Fin 3 × Fin 8 => (inT t.1 t.2.1 t.2.2).view.set)
    inKey in_key rsIdx rsIdx_all.1 rsIdx_all.2 (m _))
  show inP c x.1 x.2.1 x.2.2 (inV m c x.1 x.2.1 x.2.2) ⊢ (iprop(∃ f, inP c x.1 x.2.1 x.2.2 f) : sProp 𝕄)
  iintro H; iexists _; iexact H
theorem sl_two (i : Fin 2) (h : 2 + i.val < 4) : sl ⟨2 + i.val, h⟩ = i := Fin.ext (show (2 + i.val) % 2 = i.val by omega)
theorem tile_back (c : Dev nD) : bigSepL (ggIdx.map fun x => Atom.tile x.1 ⟨2 + x.2.val, by omega⟩) (res m c) ⊢ anyAt (F := F) c cc0_scratch2 := by
  rw [bigSepL_map]
  refine BIBase.Entails.trans (bigSepL_mono fun x _ => ?_) (parts_join (ℓ := (c : Thread nD τ).loc cc0_scratch2) (fun t : Fin 2 × Fin 2 => (tileT t.1 t.2).view.set)
    tileKey tile_key ggIdx ggIdx_all.1 ggIdx_all.2 (m _))
  show tileP c x.1 (sl ⟨2 + x.2.val, _⟩) (tileV m c x.1 _) ⊢ (iprop(∃ f, tileP c x.1 x.2 f) : sProp 𝕄)
  rw [sl_two]
  iintro H; iexists _; iexact H
theorem stg_back (c : Dev nD) : bigSepL ([0, 1].map fun i : Fin 2 => Atom.stg ⟨2 + i.val, by omega⟩) (res m c) ⊢ anyAt (F := F) c cc0_scratch4 := by
  rw [bigSepL_map]
  refine BIBase.Entails.trans (bigSepL_mono fun x _ => ?_) (parts_join (ℓ := (c : Thread nD τ).loc cc0_scratch4) (fun t : Fin 2 => (stgT t).view.set)
    stgKey stg_key [0, 1] two_all.1 two_all.2 (m _))
  show stgP c (sl ⟨2 + x.val, _⟩) (stgV m c _) ⊢ (iprop(∃ f, stgP c x f) : sProp 𝕄)
  rw [sl_two]
  iintro H; iexists _; iexact H
theorem out_back (c : Dev nD) : bigSepL ([0, 1, 2, 3].map Atom.out) (res m c) ⊢ (((c : Thread nD τ).loc main_v1) ↦{fullShare} outV m c : sProp 𝕄) := by
  rw [bigSepL_map]
  exact Entails.of_eq (parts_eq (ℓ := (c : Thread nD τ).loc main_v1) (fun t : Fin 4 => (outT t).view.set) rowKey out_key [0, 1, 2, 3] four_all.1 four_all.2 (outV m c)).symm

/-- The sum over a list of lists. -/
theorem bigSepL_flatMap {I J : Type} (g : I → List J) (Φ : J → sProp 𝕄) : ∀ l : List I, bigSepL (l.flatMap g) Φ = bigSepL l fun i => bigSepL (g i) Φ
  | [] => rfl
  | i :: l => by rw [List.flatMap_cons, bigSepL_append, bigSepL_cons', bigSepL_flatMap g Φ l]

theorem y_back (c : Dev nD) : bigSepL ([0, 1, 2, 3].flatMap yRow) (res m c) ⊢ anyAt (F := F) c cc0_scratch3 := by
  rw [bigSepL_flatMap]
  refine BIBase.Entails.trans (bigSepL_mono fun t _ => row_open m c t) ?_
  iintro H
  iexists (yV m c)
  ihave H := (Entails.of_eq (parts_eq (ℓ := (c : Thread nD τ).loc cc0_scratch3) rowSet rowKey row_key [0, 1, 2, 3] four_all.1 four_all.2 (yV m c)).symm) $$ H
  iexact H

end Cert.Fused
end
-- ==== Proof.Ghost.lean ====
/- The ghost state of the launch: the cells, the tokens each device pays with, the credit each device
   starts from, and the step that puts every cell under its invariant. -/
module

public import proofs.«01_k».proof.Proof.Pieces

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

theorem ghost_sep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 := BI.bigSep_of_persistent S R
  have h2 : iprop(bigSep S (fun _ => R) ∗ bigSep S Φ) ⊢ bigSep S Ψ := by
    rw [← bigSep_sep']; exact bigSep_mono h
  exact (sep_mono_left h1).trans h2

/-- The sum over pairs, one side a set and the other without repetition, one side after the other. -/
theorem sep_pairs {I J : Type} [DecidableEq I] [DecidableEq J] (t : Finset J) (Φ : I × J → sProp 𝕄) (s : Finset I) :
    bigSep (s ×ˢ t) Φ = bigSep s fun i => bigSep t fun j => Φ (i, j) := by
  refine Finset.induction_on s (by rw [Finset.empty_product, bigSep_empty, bigSep_empty]) fun i s hi ih => ?_
  have hu : insert i s ×ˢ t = t.map ⟨fun j => (i, j), fun _ _ h => congrArg Prod.snd h⟩ ∪ s ×ˢ t := by
    ext ⟨a, b⟩
    simp only [Finset.mem_product, Finset.mem_insert, Finset.mem_union, Finset.mem_map, Function.Embedding.coeFn_mk, Prod.mk.injEq]
    constructor
    · rintro ⟨rfl | h, hb⟩
      · exact Or.inl ⟨b, hb, rfl⟩
      · exact Or.inr ⟨h, hb⟩
    · rintro (⟨b', hb, rfl, rfl⟩ | ⟨h, hb⟩)
      · exact ⟨Or.inl rfl, hb⟩
      · exact ⟨Or.inr h, hb⟩
  have hd : Disjoint (t.map ⟨fun j => (i, j), fun _ _ h => congrArg Prod.snd h⟩) (s ×ˢ t) := by
    rw [Finset.disjoint_left]
    rintro ⟨a, b⟩ h₁ h₂
    obtain ⟨b', hb', h'⟩ := Finset.mem_map.mp h₁
    have ha : i = a := congrArg Prod.fst h'
    exact hi (ha ▸ (Finset.mem_product.mp h₂).1)
  rw [hu, bigSep_union hd, bigSep_map, ih, bigSep_insert hi]
  rfl

/-! ## The cells and the kernel's own semaphores -/

theorem cells_inj : Function.Injective (fun ck : Dev nD × CK => (cell ck.1 ck.2 : GSem nD τ sig)) := fun _ _ h =>
  Prod.ext (cell_inj h).1 (cell_inj h).2
def allCells : Finset (GSem nD τ sig) := Finset.univ.map ⟨_, cells_inj⟩

/-- Every cell but the barrier's, which is the launch's. -/
abbrev OwnK : Type := {k : CK // k ≠ .bar}
def osem (k : OwnK) : SemLoc sig := csem k.1

theorem csem_scoped : ∀ k : CK, k ≠ .bar → (csem k).isScoped .tc = true := by decide +kernel
theorem stage_none : ∀ (w : Fin cfg0.W) (s : Fin ((cfg0.win w).nbuf)), ckOf (.dma ((cfg0.win w).sem s)) = none := by decide +kernel
theorem ownSemFacts : Pipeline.OwnSemFacts cfg0.spec osem where
  isScoped k := csem_scoped k.1 k.2
  inj _ _ h := Subtype.ext (csem_inj h)
  disj k w s h := by
    have h1 := stage_none w s
    rw [← show csem k.1 = _ from h, ckOf_csem] at h1
    exact absurd h1 (Option.some_ne_none _)

theorem sems_eq (c : Dev nD) :
    (bigSep Finset.univ fun k : CK => semVal (cell c k) 0 : sProp 𝕄)
      = iprop(unscopedSems0 c ∗ Pipeline.ownSems0 (Ix := Unit) (Name := ℕ) (U := UU) (Lvl := ℕ) (Val := Elt F) (τ := τ) osem c) := by
  have h : (unscopedSems0 c : sProp 𝕄) = semVal (cell c .bar) 0 := by
    unfold unscopedSems0; rw [bigSep_eq_bigSepL_of_eq [barS] (by decide +kernel) (by decide)]; rfl
  rw [h, bigSep_univ_at _ CK.bar]
  unfold Pipeline.ownSems0
  rw [show (bigSep Finset.univ fun k : OwnK => (semVal ((c.tc : Thread nD τ), osem k) 0 : sProp 𝕄)) = _ from
    bigSep_subtype_ne CK.bar fun k => (semVal (cell c k) 0 : sProp 𝕄)]

/-! ## The tokens -/

abbrev Slot : Type := CK × ℕ × Fin 4

/-- The device whose cell device `c` pays with a token. -/
def slotDev (c : Dev nD) (s : Slot) : Dev nD :=
  match s.1 with
  | .bar => nbr c s.2.2
  | .rsR _ _ _ => right c
  | .agR _ _ w _ => ringTo c w
  | _ => c

def tokOf (p : Dev nD × Slot) : GSem nD τ sig × ℕ × Fin 4 := (cell (slotDev p.1 p.2) p.2.1, p.2.2.1, p.2.2.2)

theorem slotDev_inj (s : Slot) {c c' : Dev nD} (h : slotDev c s = slotDev c' s) : c = c' := by
  obtain ⟨k, r, d⟩ := s
  cases k with
  | bar => have := congrArg (fun x => sgn x d) h; dsimp only [slotDev] at this; rwa [sgn_nbr, sgn_nbr] at this
  | rsR _ _ _ => have := congrArg left h; dsimp only [slotDev] at this; rwa [left_right, left_right] at this
  | agR _ _ w _ => have := congrArg (fun x => ringTo x (opp w)) h; dsimp only [slotDev] at this; rwa [ringTo_opp, ringTo_opp] at this
  | _ => exact h

theorem tokOf_inj : Function.Injective (tokOf : Dev nD × Slot → GSem nD τ sig × ℕ × Fin 4) := by
  rintro ⟨c, k, r, d⟩ ⟨c', k', r', d'⟩ h
  have h0 := cell_inj (congrArg Prod.fst h)
  have h1 : r = r' := congrArg (fun x : GSem nD τ sig × ℕ × Fin 4 => x.2.1) h
  have h2 : d = d' := congrArg (fun x : GSem nD τ sig × ℕ × Fin 4 => x.2.2) h
  have hk : k = k' := h0.2
  subst h1 h2 hk
  exact Prod.ext (slotDev_inj (k, r, d) h0.1) rfl

def tokAtoms : List Atom :=
  [0, 1, 2, 3].map .tokSig ++ (ghIdx.map fun x => .tokLd x.1 x.2) ++ [0, 1, 2, 3].map .tokSt ++ (rsIdx.map fun x => .tokRs x.1 x.2.1 x.2.2) ++
    ((agIdx 0).map fun x => .tokAg x.1 x.2.1 0 x.2.2) ++ ((agIdx 1).map fun x => .tokAg x.1 x.2.1 1 x.2.2)

/-- The tokens a part stands for. -/
def slotsOf : Atom → List Slot
  | .tokSig i => [(.bar, 0, i)]
  | .tokLd g h => [(.ld g (sl h), h.val / 2, 0)]
  | .tokSt t => [(.st (sl t), t.val / 2, 0)]
  | .tokRs g h s => [(.rsS g h s, 0, 0), (.rsR g h s, 0, 0)]
  | .tokAg g k w s => [(.agS g k w s, 0, 0), (.agR g k w s, 0, 0)]
  | _ => []
def slots : List Slot := tokAtoms.flatMap slotsOf
theorem slots_nodup : slots.Nodup := by decide +kernel

def tokGood : Atom → Bool
  | .tokSig _ | .tokLd _ _ | .tokSt _ | .tokRs _ _ _ => true
  | .tokAg _ k w _ => !(decide (k = 3 ∧ w = 1))
  | _ => false
theorem tokAtoms_good : ∀ a ∈ tokAtoms, tokGood a = true := List.all_eq_true.mp (by decide +kernel)

def slotTok (c : Dev nD) (s : Slot) : sProp 𝕄 := dutyTok ER (cell (slotDev c s) s.1) s.2.1 s.2.2

theorem slots_res (c : Dev nD) (a : Atom) (h : tokGood a = true) : bigSepL (slotsOf a) (slotTok c) ⊢ res m c a := by
  cases a with
  | tokSig i => exact BIBase.Entails.rfl
  | tokLd g h => exact BIBase.Entails.rfl
  | tokSt t => exact BIBase.Entails.rfl
  | tokRs g h s => exact BIBase.Entails.rfl
  | tokAg g k w s =>
    have hv : Valid k w := by
      dsimp only [tokGood] at h
      intro h'; rw [decide_eq_true h'] at h; exact absurd h (by decide)
    show iprop(dutyTok ER (cell c (.agS g k w s)) 0 0 ∗ dutyTok ER (cell (ringTo c w) (.agR g k w s)) 0 0)
      ⊢ (iprop(⌜Valid k w⌝ ∗ dutyTok ER (cell c (.agS g k w s)) 0 0 ∗ dutyTok ER (cell (ringTo c w) (.agR g k w s)) 0 0) : sProp 𝕄)
    iintro H
    isplitr
    · ipureintro; exact hv
    iexact H
  | _ => cases h

def allToks : Finset (GSem nD τ sig × ℕ × Fin 4) := (Finset.univ ×ˢ slots.toFinset).map ⟨tokOf, tokOf_inj⟩

theorem toks_dealt : bigSep allToks (fun x => (dutyTok ER x.1 x.2.1 x.2.2 : sProp 𝕄)) ⊢ bigSep Finset.univ fun c : Dev nD => bigSepL tokAtoms (res m c) := by
  unfold allToks
  rw [bigSep_map, sep_pairs]
  refine bigSep_mono fun c _ => ?_
  rw [bigSep_eq_bigSepL slots slots_nodup]
  rw [show (bigSepL slots fun j => (dutyTok ER ((⟨tokOf, tokOf_inj⟩ : Dev nD × Slot ↪ _) (c, j)).1 ((⟨tokOf, tokOf_inj⟩ : Dev nD × Slot ↪ _) (c, j)).2.1
    ((⟨tokOf, tokOf_inj⟩ : Dev nD × Slot ↪ _) (c, j)).2.2 : sProp 𝕄)) = bigSepL slots (slotTok c) from rfl]
  rw [slots, bigSepL_flatMap]
  exact bigSepL_mono fun a ha => slots_res m c a (tokAtoms_good a ha)

/-! ## The launch element and its dealing -/

def u₀ : UU :=
  (initOf (Pipeline.cells cfgs cellOf_inj) (Pipeline.launchToks cfgs cellOf_inj), initOf allCells allToks)

/-- What the launch element deals a device; -/
def G (c : Dev nD) : sProp 𝕄 :=
  iprop((bigSep Finset.univ fun k : CK => roundState ER (Rd m) (cell c k) 0)
    ∗ (bigSep Finset.univ fun k : CK => reached ER (cell c k) 0) ∗ (bigSep Finset.univ fun k : CK => atPos ER (cell c k) 0 ∅ 0) ∗ bigSepL tokAtoms (res m c))

/-- what the global step makes of it. -/
def G' (c : Dev nD) : sProp 𝕄 := iprop(∃ Kn, records m Kn ∗ bigSepL (ckIdx.map fun k => Atom.pos k 0) (res m c) ∗ bigSepL tokAtoms (res m c))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT := toks_dealt (F := F) m
  iintro HX
  imod (Rounds.fund ER (Rd m) allCells allToks) $$ HX with ⟨Hst, Hr, Hat, Htok⟩
  imodintro
  ihave Hst := (Entails.of_eq (hX fun g => roundState ER (Rd m) g 0)) $$ Hst
  ihave Hr := (Entails.of_eq (hX fun g => reached ER g 0)) $$ Hr
  ihave Hat := (Entails.of_eq (hX fun g => atPos ER g 0 ∅ 0)) $$ Hat
  ihave Htok := hT $$ Htok
  unfold G
  simp only [bigSep_sep']
  isplitl [Hst]; · iexact Hst
  isplitl [Hr]; · iexact Hr
  isplitl [Hat] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => reached ER (cell c k) 0) ∗ (bigSep Finset.univ fun k : CK => atPos ER (cell c k) 0 ∅ 0) ∗ bigSepL tokAtoms (res m c)) := by
  have hs := Entails.of_eq (sems_eq (F := F) c).symm
  have ha : iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G
  iintro ⟨Hos, Hus, Hst, Hr, Hat, Htok⟩
  ihave Hv := hs $$ [Hos Hus]
  · isplitl [Hus] <;> iassumption
  imod ha $$ [Hv Hst] with Hinv
  · isplitl [Hv] <;> iassumption
  imodintro
  isplitl [Hinv]; · iexact Hinv
  isplitl [Hr]; · iexact Hr
  isplitl [Hat] <;> iassumption

theorem ckIdx_all : Finset.univ = ckIdx.toFinset ∧ ckIdx.Nodup := by decide +kernel

theorem ghost_intro (c : Dev nD) :
    iprop(records m Kn ∗ ((bigSep Finset.univ fun k : CK => atPos ER (cell c k) 0 ∅ 0) ∗ bigSepL tokAtoms (res m c))) ⊢ G' m c := by
  have hp : iprop(records m Kn ∗ bigSep Finset.univ fun k : CK => atPos ER (cell c k) 0 ∅ 0)
      ⊢ bigSep Finset.univ fun k : CK => (iprop(atPos ER (cell c k) 0 ∅ 0 ∗ reached ER (cell c k) 0) : sProp 𝕄) :=
    ghost_sep_persistent fun k _ => by
      unfold records
      iintro ⟨⟨-, HR⟩, H⟩
      isplitl [H]; · iexact H
      iapply (reached_elim (F := F) c k); iexact HR
  have hl := Entails.of_eq (bigSep_univ_eq_bigSepL ckIdx ckIdx_all.1 ckIdx_all.2 fun k : CK => (iprop(atPos ER (cell c k) 0 ∅ 0 ∗ reached ER (cell c k) 0) : sProp 𝕄))
  have hl : (bigSep Finset.univ fun k : CK => (iprop(atPos ER (cell c k) 0 ∅ 0 ∗ reached ER (cell c k) 0) : sProp 𝕄))
    ⊢ bigSepL ckIdx fun k => res m c (Atom.pos k 0) := hl
  unfold G'
  rw [bigSepL_map]
  iintro ⟨#HR, Hat, Htok⟩
  iexists Kn
  isplitr; · iexact HR
  isplitl [Hat]
  · ihave H := hp $$ [Hat]
    · isplitr; · iexact HR
      iexact Hat
    iapply hl; iexact H
  iexact Htok

theorem regroup :
    (bigSep Finset.univ fun c : Dev nD => iprop((bigSep Finset.univ fun k : CK => iprop(∃ κ : ℕ, cellInv ER (Rd m) κ (cell c k)))
          ∗ (bigSep Finset.univ fun k : CK => reached ER (cell c k) 0) ∗ (bigSep Finset.univ fun k : CK => atPos ER (cell c k) 0 ∅ 0) ∗ bigSepL tokAtoms (res m c)) : sProp 𝕄)
      ⊢ bigSep Finset.univ (G' m) := by
  rw [bigSep_sep', bigSep_sep', ← bigSep_univ_prod (fun ck : Dev nD × CK => iprop(∃ κ : ℕ, cellInv ER (Rd m) κ (cell ck.1 ck.2))),
    ← bigSep_univ_prod (fun ck : Dev nD × CK => (reached ER (cell ck.1 ck.2) 0 : sProp 𝕄))]
  iintro ⟨HI, #HR, Hl⟩
  ihave HK := (BI.bigSep_exists_pi Finset.univ (fun (ck : Dev nD × CK) (κ : ℕ) => (cellInv ER (Rd m) κ (cell ck.1 ck.2) : sProp 𝕄))) $$ HI
  icases HK with ⟨%K, #HI⟩
  iapply (ghost_sep_persistent (R := records m K) fun c _ => ghost_intro m K c)
  isplitr
  · unfold records; isplitl; · iexact HI
    iexact HR
  · iexact Hl

/-- The global step: every device's semaphores become cells under invariants known to all. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The device that owes an event's payment to `c`. -/
def srcOf (c : Dev nD) : Ev → Dev nD
  | .signal i => sgn c i
  | .rsStart _ _ _ => left c
  | .agStart _ _ w _ => ringTo c (opp w)
  | _ => c

theorem tgt_iff (c d : Dev nD) (e : Ev) : c = tgt d e ↔ srcOf c e = d := by
  cases e with
  | signal i => exact ⟨fun h => by rw [h]; exact sgn_nbr d i, fun h => by rw [← h]; exact (nbr_sgn c i).symm⟩
  | rsStart g h s => exact ⟨fun h => by rw [h]; exact left_right d, fun h => by rw [← h]; exact (right_left c).symm⟩
  | agStart g k w s => exact ⟨fun h => by rw [h]; exact ringTo_opp d w, fun h => by rw [← h]; exact (ringTo_opp' c w).symm⟩
  | _ => exact Iff.rfl

def paysIs (k : CK) (e : Ev) : Bool := e.pays == some k

theorem owe1_sum (c : Dev nD) (k : CK) (e : Ev) : ∑ d : Dev nD, owe1 d e (cell c k) () = if paysIs k e = true then k.amt else 0 := by
  unfold owe1 paysIs
  cases hp : e.pays with
  | none => exact Finset.sum_eq_zero fun d _ => rfl
  | some k' =>
    by_cases hk : k' = k
    · subst hk
      rw [if_pos (by simp), Finset.sum_congr rfl (g := fun d => if srcOf c e = d then k'.amt else 0) fun d _ => by
        dsimp only
        rw [tallyAt_apply]
        exact if_congr ⟨fun h => (tgt_iff c d e).mp (cell_inj h.1).1, fun h => ⟨by rw [← (tgt_iff c d e).mpr h], rfl⟩⟩ rfl rfl]
      rw [Finset.sum_ite_eq, if_pos (Finset.mem_univ _)]
    · rw [if_neg (by simp [hk])]
      exact Finset.sum_eq_zero fun d _ => by
        dsimp only
        rw [tallyAt_apply, if_neg fun h => hk (cell_inj h.1).2.symm]

theorem owedL_sum (c : Dev nD) (k : CK) : ∀ l : List Ev, ∑ d : Dev nD, owedL d l (cell c k) () = l.countP (paysIs k) * k.amt
  | [] => by rw [List.countP_nil, Nat.zero_mul]; exact Finset.sum_eq_zero fun d _ => rfl
  | e :: l => by
    rw [Finset.sum_congr rfl fun d _ => show owedL d (e :: l) (cell c k) () = owedL d l (cell c k) () + owe1 d e (cell c k) () from rfl,
      Finset.sum_add_distrib, owedL_sum c k l, owe1_sum, List.countP_cons, Nat.add_mul]
    congr 1
    split <;> simp

def crAtoms : List Atom :=
  .crBar :: (rsIdx.map fun x => .crRsR x.1 x.2.1 x.2.2) ++
    ((agIdx 0).map fun x => .crAgR x.1 x.2.1 0 x.2.2) ++ ((agIdx 1).map fun x => .crAgR x.1 x.2.1 1 x.2.2)
def crCell : Atom → CK
  | .crRsR g h s => .rsR g h s
  | .crAgR g k w s => .agR g k w s
  | _ => .bar
def crGood : Atom → Bool
  | .crBar => evs.countP (paysIs .bar) == 4
  | .crRsR g h s => evs.countP (paysIs (.rsR g h s)) == 1
  | .crAgR g k w s => !(decide (k = 3 ∧ w = 1)) && evs.countP (paysIs (.agR g k w s)) == 1
  | _ => false
theorem crAtoms_good : ∀ a ∈ crAtoms, crGood a = true := List.all_eq_true.mp (by decide +kernel)
theorem crAtoms_nodup : (crAtoms.map crCell).Nodup := by decide +kernel

/-- What the devices owe at launch. -/
def O₀ (d : Dev nD) : CellTallies nD τ sig Unit := owedL d evs

theorem launch_cell (c : Dev nD) (k : CK) (n : ℕ) (h : evs.countP (paysIs k) * k.amt = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same]
  unfold O₀
  rw [owedL_sum, h]

theorem cred_res (c : Dev nD) (a : Atom) (h : crGood a = true) :
    (cred (tallyOn (cell c (crCell a)) (launchCredit (Pipeline.owing O₀) 0 (cell c (crCell a)))) : sProp 𝕄) ⊢ res m c a := by
  cases a with
  | crBar =>
    rw [launch_cell c _ 4 (by show evs.countP (paysIs .bar) * 1 = 4; rw [beq_iff_eq.mp h])]
    exact BIBase.Entails.rfl
  | crRsR g h' s =>
    rw [launch_cell c _ (CK.rsR g h' s).amt (by show evs.countP (paysIs (.rsR g h' s)) * (CK.rsR g h' s).amt = _; rw [beq_iff_eq.mp h, Nat.one_mul])]
    exact BIBase.Entails.rfl
  | crAgR g k w s =>
    have h := (Bool.and_eq_true _ _).mp h
    have hv : Valid k w := fun h' => by have h1 := h.1; rw [decide_eq_true h'] at h1; exact absurd h1 (by decide)
    rw [launch_cell c _ (CK.agR g k w s).amt (by show evs.countP (paysIs (.agR g k w s)) * (CK.agR g k w s).amt = _; rw [beq_iff_eq.mp h.2, Nat.one_mul])]
    show (cred (tallyAt (cell c (.agR g k w s)) () (CK.agR g k w s).amt) : sProp 𝕄) ⊢ iprop(⌜Valid k w⌝ ∗ cred (tallyAt (cell c (.agR g k w s)) () (CK.agR g k w s).amt))
    iintro H
    isplitr
    · ipureintro; exact hv
    iexact H
  | _ => cases h

theorem creds (c : Dev nD) : (Pipeline.launchCred O₀ c : sProp 𝕄) ⊢ bigSepL crAtoms (res m c) := by
  unfold Pipeline.launchCred
  have hn : ((crAtoms.map crCell).map csem).Nodup := crAtoms_nodup.map fun _ _ h => csem_inj h
  refine (bigSep_subset (Finset.subset_univ ((crAtoms.map crCell).map csem).toFinset)).trans ?_
  rw [bigSep_eq_bigSepL _ hn, bigSepL_map, bigSepL_map]
  exact bigSepL_mono fun a ha => cred_res m c a (crAtoms_good a ha)

end Cert.Fused
end
-- ==== Proof.Match.lean ====
/- The printed body is the program of the list of events. -/
module

public import proofs.«01_k».proof.Proof.Events

@[expose] public section

noncomputable section

namespace Cert.Fused

open Idealize.ShloMosaic Idealize.SL.Sem Cert.KernelIdeal Cert.KernelIdeal.Gen

variable {F : FTy → Type} [FloatOps F]

set_option maxRecDepth 65536 in
/-- The body on a device: ask for the device's number, then the events. -/
theorem body_eq (t : Fin cfg0.N) :
    bodyAt0 (F := F) t = .op .deviceId fun c => run c (Memref.whole cc0_stg0_0) evs := by
  rfl

end Cert.Fused
end
-- ==== Proof.Launch.lean ====
/- The launch: the body's obligation and the run of the whole machine. -/
module

public import Idealize.ShloMosaic.Lib.Pipeline.CollectiveSegs
public import proofs.«01_k».proof.Proof.Ghost
public import proofs.«01_k».proof.Proof.Match

@[expose] public section

set_option maxRecDepth 20000

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (Kn : Dev nD × CK → ℕ)

/-! ## The parts of the start and of the end, gathered -/

def dataAtoms : List Atom :=
  (ghIdx.map fun x => .x x.1 x.2) ++ (ggIdx.map fun x => .tileAny x.1 x.2) ++ (gsIdx.map fun x => .sendAny x.1 x.2) ++
    (rsIdx.map fun x => .inAny x.1 x.2.1 x.2.2) ++ (ggIdx.map fun x => .yPart x.1 x.2 0) ++
    ((agIdx 0).map fun x => .yAny x.1 x.2.2 (jRecv x.2.1 0)) ++ ((agIdx 1).map fun x => .yAny x.1 x.2.2 (jRecv x.2.1 1)) ++
    [0, 1, 2, 3].map .outAny ++ [0, 1].map .stgAny ++ [.gam]
def backAtoms : List Atom :=
  (ghIdx.map fun x => .x x.1 x.2) ++ (ggIdx.map fun x => .tile x.1 ⟨2 + x.2.val, by omega⟩) ++ (gsIdx.map fun x => .send x.1 2 x.2) ++
    (rsIdx.map fun x => .inn x.1 x.2.1 x.2.2) ++ [0, 1, 2, 3].flatMap yRow ++ [0, 1, 2, 3].map .out ++
    [0, 1].map (fun i : Fin 2 => .stg ⟨2 + i.val, by omega⟩) ++ [.gam]

theorem start_eq (c : Dev nD) : bigSepL atomsStart (res m c)
    = iprop(((bigSepL (ckIdx.map fun k => Atom.pos k 0) (res m c) ∗ bigSepL tokAtoms (res m c)) ∗ bigSepL crAtoms (res m c)) ∗ bigSepL dataAtoms (res m c)) := by
  rw [show atomsStart = (ckIdx.map fun k => Atom.pos k 0) ++ tokAtoms ++ crAtoms ++ dataAtoms from rfl, bigSepL_append, bigSepL_append, bigSepL_append]
theorem end_eq (c : Dev nD) : bigSepL atomsEnd (res m c)
    = iprop(bigSepL (ckIdx.map fun k => Atom.pos k k.last) (res m c) ∗ bigSepL backAtoms (res m c)) := by
  rw [show atomsEnd = (ckIdx.map fun k => Atom.pos k k.last) ++ backAtoms from rfl, bigSepL_append]

/-- The five scratch buffers, whole. -/
def scratch (c : Dev nD) : sProp 𝕄 :=
  iprop(anyAt (F := F) c cc0_scratch0 ∗ anyAt (F := F) c cc0_scratch1 ∗ anyAt (F := F) c cc0_scratch2 ∗ anyAt (F := F) c cc0_scratch3 ∗ anyAt (F := F) c cc0_scratch4)
theorem scratch_eq (c : Dev nD) :
    (Pipeline.scopedRest (Ix := Unit) (Name := ℕ) (U := UU) (Lvl := ℕ) (Val := Elt F) (τ := τ) cfg0.spec c : sProp 𝕄) = scratch (F := F) c := scopedRest0_eq c

theorem data_start (c : Dev nD) :
    iprop((((c : Thread nD τ).loc main_arg0) ↦{fullShare.left} xBuf m c) ∗ anyAt (F := F) c main_v1 ∗ scratch (F := F) c ∗ gamP m c)
      ⊢ bigSepL dataAtoms (res m c) := by
  have hx := x_parts m c
  have ho := out_parts m c
  have h0 := send_parts m c
  have h1 := in_parts m c
  have h2 := tile_parts m c
  have h3 := y_parts m c
  have h4 := stg_parts m c
  rw [bigSepL_append, bigSepL_append] at h3
  rw [dataAtoms, bigSepL_append, bigSepL_append, bigSepL_append, bigSepL_append, bigSepL_append, bigSepL_append, bigSepL_append, bigSepL_append, bigSepL_append,
    bigSepL_singleton, show res m c .gam = gamP m c from rfl]
  unfold scratch
  iintro ⟨Hx, Ho, ⟨H0, H1, H2, H3, H4⟩, Hg⟩
  ihave H3 := h3 $$ H3
  icases H3 with ⟨⟨H3, H3'⟩, H3''⟩
  isplitr [Hg]
  · isplitr [H4]
    · isplitr [Ho]
      · isplitr [H3'']
        · isplitr [H3']
          · isplitr [H3]
            · isplitr [H1]
              · isplitr [H0]
                · isplitl [Hx]
                  · iapply hx; iexact Hx
                  iapply h2; iexact H2
                iapply h0; iexact H0
              iapply h1; iexact H1
            iexact H3
          iexact H3'
        iexact H3''
      iapply ho; iexact Ho
    iapply h4; iexact H4
  iexact Hg

theorem data_back (c : Dev nD) :
    bigSepL backAtoms (res m c) ⊢ iprop((((c : Thread nD τ).loc main_v1) ↦{fullShare} outV m c) ∗ scratch (F := F) c ∗ gamP m c) := by
  have ho := out_back m c
  have h0 := send_back m c
  have h1 := in_back m c
  have h2 := tile_back m c
  have h3 := y_back m c
  have h4 := stg_back m c
  rw [backAtoms, bigSepL_append, bigSepL_append, bigSepL_append, bigSepL_append, bigSepL_append, bigSepL_append, bigSepL_append,
    bigSepL_singleton, show res m c .gam = gamP m c from rfl]
  unfold scratch
  iintro ⟨⟨⟨⟨⟨⟨⟨Hx, H2⟩, H0⟩, H1⟩, H3⟩, Ho⟩, H4⟩, Hg⟩
  isplitl [Ho]; · iapply ho; iexact Ho
  isplitr [Hg]
  · isplitl [H0]; · iapply h0; iexact H0
    isplitl [H1]; · iapply h1; iexact H1
    isplitl [H2]; · iapply h2; iexact H2
    isplitl [H3]; · iapply h3; iexact H3
    iapply h4; iexact H4
  iexact Hg

/-- Every cell of a device closed: its counters at zero. -/
theorem close_all (c : Dev nD) :
    iprop(records m Kn ∗ bigSepL (ckIdx.map fun k => Atom.pos k k.last) (res m c))
      ⊢ |={Set.univ}=> iprop(unscopedSems0 c ∗ Pipeline.ownSems0 (Ix := Unit) (Name := ℕ) (U := UU) (Lvl := ℕ) (Val := Elt F) (τ := τ) osem c) := by
  rw [← sems_eq, bigSepL_map]
  have hl := Entails.of_eq (bigSep_univ_eq_bigSepL ckIdx ckIdx_all.1 ckIdx_all.2 fun k : CK => res m c (Atom.pos k k.last)).symm
  have h1 : iprop(records m Kn ∗ bigSep Finset.univ fun k : CK => res m c (Atom.pos k k.last))
      ⊢ (bigSep Finset.univ fun k : CK => iprop(|={Set.univ}=> semVal (cell c k) 0) : sProp 𝕄) :=
    ghost_sep_persistent fun k _ => by
      have hc := Rounds.cell_close ER (Rd m) (κ := Kn (c, k)) (Es := Set.univ) (Set.mem_univ _) (fun h => h) (R := k.rounds) (Rd_later m c k k.rounds le_rfl)
      show iprop(records m Kn ∗ atPos ER (cell c k) k.rounds ∅ 0 ∗ reached ER (cell c k) k.rounds) ⊢ _
      unfold records
      iintro ⟨⟨HI, -⟩, Hat, -⟩
      iapply hc
      isplitl [HI]
      · iapply (inv_elim m Kn c k); iexact HI
      iexact Hat
  have h2 := h1.trans (bigSep_fupd (Finset.univ : Finset CK) fun k => (semVal (cell c k) 0 : sProp 𝕄))
  refine BIBase.Entails.trans ?_ h2
  iintro ⟨HR, H⟩
  isplitl [HR]; · iexact HR
  iapply hl; iexact H

/-! ## The proof data of the launch -/

variable (ρ : Dev nD → PrngReg)

def start (c : Dev nD) : sProp 𝕄 :=
  iprop(G' m c ∗ levs (F := F) ∗ bigSepL crAtoms (res m c) ∗ (((c : Thread nD τ).loc main_arg0) ↦{fullShare.left} xBuf m c) ∗ anyAt (F := F) c main_v1)
def Φ₀ (c : Dev nD) : sProp 𝕄 := iprop(start m c ∗ Pipeline.scopedRest (Ix := Unit) (Name := ℕ) (U := UU) (Lvl := ℕ) (Val := Elt F) (τ := τ) cfg0.spec c)
def Φ₁ (c : Dev nD) : sProp 𝕄 :=
  iprop((unscopedSems0 c ∗ (((c : Thread nD τ).loc main_v1) ↦{fullShare} outV m c))
    ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) (τ := τ) cfg0.spec c)

def dats (_ : Fin 1) (c : Dev nD) : Pipeline.Dat τ (Elt F) Unit ℕ UU ℕ cfg0 c where
  A w := m ((cfg0.win w).arr.view.loc (c : Thread nD τ))
  after w _ := match w with
    | ⟨0, _⟩ => gBuf m c
  Φ t := match t with
    | ⟨0, _⟩ => Φ₀ m c
    | ⟨_ + 1, _⟩ => Φ₁ m c
  q _ := fullShare
  owed t := match t with
    | ⟨0, _⟩ => O₀ c
    | ⟨_ + 1, _⟩ => 0

def t₀ : Fin cfg0.N := ⟨0, by rw [show cfg0.N = 1 from N_0]; decide⟩
theorem fin_N (t : Fin cfg0.N) : t = t₀ := by
  obtain ⟨t, ht⟩ := t; have h : cfg0.N = 1 := N_0; exact Fin.ext (by simp only [t₀]; omega)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stgAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc ∗ (∃ d, stgAt c cc0_stg0_0 ((dats m 0 c).before (0 : Fin 1) t₀ d)))
def bodyPost (c : Dev nD) : sProp 𝕄 :=
  iprop(Φ₁ m c ∗ (dats m 0 c).owesAt () t₀.succ ∗ stgAt c cc0_stg0_0 (gBuf m c))

theorem gam_at (c : Dev nD) : (((c : Thread nD τ).loc cc0_stg0_0 ↦{fullShare} gBuf m c) : sProp 𝕄) = gamP m c := rfl

theorem sound_body (c : Dev nD) : bodyPre m c ⊢ WP c (bodyAt0 (F := F) t₀) (fun _ => bodyPost m c) := by
  unfold WP; rw [body_eq, wp_deviceId]
  unfold bodyPre Φ₀ start G'
  iintro ⟨⟨⟨⟨%K, #HR, Hpos, Htok⟩, #Hlev, Hcr, Hx, Hv⟩, Hsc⟩, Ho, ⟨%d0, %g0, %hg0, Hg⟩⟩
  have hg : g0 = gBuf m c := by rw [hg0]; unfold Pipeline.Dat.before; rw [if_pos (fetch0_0 t₀)]; rfl
  subst hg
  unfold Pipeline.Dat.owesAt Pipeline.owesWithin
  icases Ho with ⟨%W, %hW, HO⟩
  rw [show (dats m 0 c).owed t₀.castSucc = owedL c evs from rfl]
  have hs := evs_sound m K c (fun _ => bodyPost m c)
  have hd := data_start m c
  have hb := data_back m c
  rw [start_eq, end_eq] at hs
  rw [← scratch_eq] at hd hb
  iapply hs $$ [Hpos Htok Hcr Hx Hv Hsc Hg HO]
  · isplitr
    · unfold ctx; isplitr; · iexact HR
      iexact Hlev
    isplitr [HO]
    · isplitr [Hx Hv Hsc Hg]
      · isplitr [Hcr]
        · isplitl [Hpos] <;> iassumption
        iexact Hcr
      iapply hd
      isplitl [Hx]; · iexact Hx
      isplitl [Hv]; · iexact Hv
      isplitl [Hsc]; · iexact Hsc
      rw [← gam_at]; iexact Hg
    unfold owed; iexists W; iexact HO
  iintro ⟨⟨Hpos, Hd⟩, Ho⟩
  unfold WP; rw [wp_ret]
  imod (close_all m K c) $$ [Hpos] with ⟨Hz, Hzs⟩
  · isplitr; · iexact HR
    iexact Hpos
  imodintro
  ihave Hd := hb $$ Hd
  icases Hd with ⟨Hv, Hsc, Hg⟩
  unfold bodyPost Φ₁ Pipeline.Dat.owesAt Pipeline.owesWithin owed
  rw [show (dats m 0 c).owed t₀.succ = 0 from rfl]
  icases Ho with ⟨%W', HO⟩
  isplitl [Hv Hsc Hz Hzs]
  · isplitl [Hv Hz]
    · isplitl [Hz] <;> iassumption
    isplitl [Hzs] <;> iassumption
  isplitl [HO]
  · iexists W'
    isplitr; · ipureintro; exact fun _ _ => Or.inl trivial
    iexact HO
  iexists _
  isplitr; · (ipureintro; rfl)
  rw [gam_at]; iexact Hg

theorem defs_body : defs₀ (F := F) Proc.tc 0 (t₀, cfg0.slots t₀) = bodyAt0 (F := F) t₀ := rfl

theorem body_obligation (c : Dev nD) : Pipeline.BodyObligation (dats m 0 c) (defs₀ (F := F)) 𝒱₀ () Set.univ := fun t => by
  rw [fin_N t]
  rw [bigSep_W0, bigSep_W0]
  simp only [owns_whole]
  rw [defs_body, show (dats m 0 c).Φ t₀.castSucc = Φ₀ m c from rfl, show (dats m 0 c).Φ t₀.succ = Φ₁ m c from rfl,
    show (dats m 0 c).after (0 : Fin 1) t₀ = gBuf m c from rfl]
  have h := sound_body m c
  unfold WP bodyPre bodyPost at h
  generalize bodyAt0 (F := F) t₀ = P at h ⊢
  generalize Φ₁ m c = Q at h ⊢
  generalize Φ₀ m c = Q' at h ⊢
  refine BIBase.Entails.trans ?_ (h.trans ?_)
  · exact BIBase.Entails.rfl
  · exact BIBase.Entails.rfl

/-! ## The launch -/

theorem share_eq (c : Dev nD) (w : Fin cfg0.W) : (dats m 0 c).share w = fullShare := by unfold Pipeline.Dat.share; split <;> rfl

theorem lvl_pos : ∀ e : Ev, ∀ k, e.pays = some k → 0 < k.lvl := fun e k h => by
  cases e <;> dsimp only [Ev.pays] at h <;> first | cases h | skip
  all_goals (dsimp only [CK.lvl]; (try split) <;> omega)

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_cut c _ 0 (le_of_eq (by
        show (match ckOf (.dma ((cfg0.win w).sem s)) with | none => 0 | some k => k.lvl) = 0
        rw [stage_none w s])) evs fun e _ k h => lvl_pos e k h
    · rw [show (dats m 0 c).owed _ = 0 from rfl, MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ (((c : Thread nD τ).loc main_arg0) ↦{fullShare.right} xBuf m c)) := by
  have hc := creds m c
  have hu := Entails.of_eq (Pipeline.unscopedRestP_eq_of_list (Ix := Unit) (Name := ℕ) (U := UU) (Lvl := ℕ) cfg0.spec c Pipeline.Prefetch.none
    (fun b => m ((c : Thread nD τ).loc b)) [main_arg0, main_v1] (by decide) (by decide))
  rw [bigSepL_cons', bigSepL_singleton] at hu
  have hx := (pointsTo_share (ℓ := (c : Thread nD τ).loc main_arg0) (I := Finset.univ) (f := xBuf m c) (PosShare.mem_left_op_right fullShare) (Ix := Unit) (Name := ℕ) (U := UU) (Lvl := ℕ)).mp
  have hx' : ((((c : Thread nD τ).loc main_arg0) ↦{fullShare} m ((c : Thread nD τ).loc main_arg0)) : sProp 𝕄)
      ⊢ iprop((((c : Thread nD τ).loc main_arg0) ↦{fullShare.left} xBuf m c) ∗ (((c : Thread nD τ).loc main_arg0) ↦{fullShare.right} xBuf m c)) := hx
  iintro ⟨Hu, Hlev, Hcr, -, HG⟩
  ihave Hu := hu $$ Hu
  icases Hu with ⟨Hx, Hv⟩
  ihave Hx := hx' $$ Hx
  icases Hx with ⟨Hx, Hx'⟩
  ihave Hcr := hc $$ Hcr
  imodintro
  unfold start
  isplitr [Hx']
  · isplitl [HG]; · iexact HG
    isplitl [Hlev]; · unfold levs; iexact Hlev
    isplitl [Hcr]; · iexact Hcr
    isplitl [Hx]; · iexact Hx
    iexists _; iexact Hv
  iexact Hx'

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What the exit of a device says of memory. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = outV m c

theorem seen (c : Dev nD) (s' : Phys nD τ sig (Elt F)) :
    iprop((unscopedSems0 c ∗ (((c : Thread nD τ).loc main_v1) ↦{fullShare} outV m c)) ∗ (((c : Thread nD τ).loc main_arg0) ↦{fullShare.right} xBuf m c) ∗ SI s')
      ⊢ (|={Set.univ}=> iprop(⌜Seen m c s'.mem⌝ ∗ SI s') : sProp 𝕄) := by
  have h1 := pointsTo_read_all (Ix := Unit) (Name := ℕ) (U := UU) (Lvl := ℕ) {()} (fun _ => (c : Thread nD τ).loc main_v1) (fun _ => outV m c) s'
  have h2 := pointsTo_read_all (Ix := Unit) (Name := ℕ) (U := UU) (Lvl := ℕ) {()} (fun _ => (c : Thread nD τ).loc main_arg0) (fun _ => xBuf m c) s' fullShare.right
  rw [bigSep_singleton] at h1 h2
  iintro ⟨⟨Hu, Hv⟩, Hx, HSI⟩
  ihave H := h1 $$ [Hv HSI]
  · isplitl [Hv] <;> iassumption
  icases H with ⟨%e1, HSI⟩
  ihave H := h2 $$ [Hx HSI]
  · isplitl [Hx] <;> iassumption
  icases H with ⟨%e2, HSI⟩
  imod (Pipeline.unscopedSems0_read (X := unscopedSems0 c) (c := c) fupd_intro s') $$ [Hu HSI] with ⟨%e3, HSI⟩
  · isplitl [Hu] <;> iassumption
  imodintro
  isplitr
  · ipureintro; exact ⟨e3, e2 () (Finset.mem_singleton_self _), e1 () (Finset.mem_singleton_self _)⟩
  iexact HSI

set_option maxRecDepth 8000 in
/-- From any memory with zero counters, for any float values: every weakly fair execution of the thirty-two kernels
    terminates; the arguments are unchanged, the result is `outV`, and every counter is at zero. -/
theorem run_main : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outV m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_v1) ↦{fullShare} outV m c)))
    (Z := fun c => ((c : Thread nD τ).loc main_arg0) ↦{fullShare.right} xBuf m c)
    (hX := start_intro m ρ) (hin := phi0_intro m) (hout := fun c => BIBase.Entails.rfl)
    (QY := Seen m) (hY := seen m)
    (hQ := fun s h hs => ⟨fun c => ⟨(h c).2.2.2.1, ((h c).1 0).trans ((dats m 0 c).arrAt_in (0 : Fin 1) rfl _), (h c).2.2.2.2⟩, sem_eq_zero hs fun c => (h c).2.2.1⟩)

/-- The frame of the run: the arguments unchanged, every counter at zero. -/
theorem run_frame : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1, (h.1 c).2.1⟩, h.2⟩) (run_main m ρ)

end Cert.Fused
end
-- ==== Proof.Partial.lean ====
/- What the ring of partial sums computes over the reals: every element of `y` is the sum of the four
   blocks of `x` at that element. -/
module

public import proofs.«01_k».proof.Proof.Views
public import Idealize.ShloMosaic.Lib.IdealHost
public import Idealize.ShloMosaic.Lib.Pipeline.Value
public import Idealize.ShloMosaic.Lib.ValueIdx

@[expose] public section

noncomputable section

namespace Cert.Fused

open Idealize.ShloMosaic Idealize.SL.Sem Cert.KernelIdeal Cert.KernelIdeal.Gen
open Idealize.ShloMosaic.TcCoe Idealize.ShloMosaic.ValueIdx

/-! ## Where an element of each window lies -/

/-- The block of rows of `x`, of four, that a device adds at a hop. -/
def blk (c : Dev nD) (h : Fin 4) : ℕ := (c.val / 4 % 4 + 3 - h.val) % 4

theorem blk_lt (c : Dev nD) (h : Fin 4) : blk c h < 4 := Nat.mod_lt _ (by decide)

theorem xOff_eq : ∀ (c : Dev nD) (g : Fin 2) (h : Fin 4),
    xOff c g h = ![0, 2048 * blk c h + 1024 * g.val, 256 * (col c 0).val] := by decide +kernel

theorem emb_x (c : Dev nD) (g : Fin 2) (h : Fin 4) (a : Fin 1024) (b : Fin 256) :
    (xSrc c g h).view.emb (ix2 a b) = (ix3 0 ⟨2048 * blk c h + 1024 * g.val + a.val, by have := blk_lt c h; omega⟩
      ⟨256 * (col c 0).val + b.val, by omega⟩ : S1x8192x2048.Idx) := by
  show (Rect.unit (s := S1x8192x2048) (xOff c g h) S1x1024x256.size (xOff_inb c g h)).emb
    (Shape.reshapeEquiv _ (ix2 a b : S1024x256.Idx)) = _
  rw [Shape.reshapeEquiv_eq_of_rowMajor _ (y := (ix3 0 a b : S1x1024x256.Idx))
    (by rw [Shape.rowMajor_val_three, Shape.rowMajor_val_two]; simp)]
  have h0 := congrFun (xOff_eq c g h) 0
  have h1 := congrFun (xOff_eq c g h) 1
  have h2 := congrFun (xOff_eq c g h) 2
  funext k
  refine Fin.ext ?_
  match k with
  | ⟨0, _⟩ => show xOff c g h 0 + 1 * 0 = 0; rw [h0]; rfl
  | ⟨1, _⟩ => show xOff c g h 1 + 1 * a.val = 2048 * blk c h + 1024 * g.val + a.val; rw [h1, one_mul]; rfl
  | ⟨2, _⟩ => show xOff c g h 2 + 1 * b.val = 256 * (col c 0).val + b.val; rw [h2, one_mul]; rfl

theorem emb_tile (g i : Fin 2) (a : Fin 1024) (b : Fin 256) :
    (tileT g i).view.emb (ix2 a b) = (ix4 g i a b : S2x2x1024x256.Idx) := by
  show (Rect.unit (s := S2x2x1024x256) (tileOff g i) S1x1x1024x256.size (tileOff_inb g i)).emb
    (Shape.reshapeEquiv _ (ix2 a b : S1024x256.Idx)) = _
  rw [Shape.reshapeEquiv_eq_of_rowMajor _ (y := (ix4 0 0 a b : S1x1x1024x256.Idx))
    (by rw [Shape.rowMajor_val_four, Shape.rowMajor_val_two]; simp)]
  funext k
  refine Fin.ext ?_
  match k with
  | ⟨0, _⟩ => show g.val + 1 * 0 = g.val; omega
  | ⟨1, _⟩ => show i.val + 1 * 0 = i.val; omega
  | ⟨2, _⟩ => show 0 + 1 * a.val = a.val; omega
  | ⟨3, _⟩ => show 0 + 1 * b.val = b.val; omega

/-- Row `r` of piece `s`. -/
abbrev prow (s : Fin 8) (r : Fin 128) : Fin 1024 := ⟨128 * s.val + r.val, by omega⟩

theorem emb_rTile (g : Fin 2) (h : Fin 4) (s : Fin 8) (r : Fin 128) (q : Fin 256) :
    (rTile g h s).toLoadRect.idx (ix4 0 0 r q : S1x1x128x256.Idx) = (ix4 g (sl h) (prow s r) q : S2x2x1024x256.Idx) := by
  funext k
  refine Fin.ext ?_
  match k with
  | ⟨0, _⟩ => show g.val + 1 * 0 = g.val; omega
  | ⟨1, _⟩ => show (sl h).val + 1 * 0 = (sl h).val; omega
  | ⟨2, _⟩ => show 128 * s.val + 1 * r.val = 128 * s.val + r.val; omega
  | ⟨3, _⟩ => show 0 + 1 * q.val = q.val; omega

theorem emb_rIn (g : Fin 2) (h : Fin 3) (s : Fin 8) (r : Fin 128) (q : Fin 256) :
    (rIn g h s).toLoadRect.idx (ix4 0 0 r q : S1x1x128x256.Idx) = (ix4 g h (prow s r) q : S2x3x1024x256.Idx) := by
  funext k
  refine Fin.ext ?_
  match k with
  | ⟨0, _⟩ => show g.val + 1 * 0 = g.val; omega
  | ⟨1, _⟩ => show h.val + 1 * 0 = h.val; omega
  | ⟨2, _⟩ => show 128 * s.val + 1 * r.val = 128 * s.val + r.val; omega
  | ⟨3, _⟩ => show 0 + 1 * q.val = q.val; omega

theorem emb_in (g : Fin 2) (h : Fin 3) (s : Fin 8) (r : Fin 128) (q : Fin 256) :
    (inT g h s).view.emb (ix2 r q) = (ix4 g h (prow s r) q : S2x3x1024x256.Idx) := by
  show (rIn g h s).emb (Shape.reshapeEquiv _ (ix2 r q : S128x256.Idx)) = _
  rw [Shape.reshapeEquiv_eq_of_rowMajor _ (y := (ix4 0 0 r q : S1x1x128x256.Idx))
    (by rw [Shape.rowMajor_val_four, Shape.rowMajor_val_two]; simp)]
  exact emb_rIn g h s r q

theorem emb_rSend (g : Fin 2) (s : Fin 8) (r : Fin 128) (q : Fin 256) :
    (sendM.access (rSend g s)).emb (ix3 0 r q : S1x128x256.Idx) = (ix3 g (prow s r) q : S2x1024x256.Idx) := by
  funext k
  refine Fin.ext ?_
  match k with
  | ⟨0, _⟩ => show g.val + 1 * 0 = g.val; omega
  | ⟨1, _⟩ => show 128 * s.val + 1 * r.val = 128 * s.val + r.val; omega
  | ⟨2, _⟩ => show 0 + 1 * q.val = q.val; omega

theorem emb_send (g : Fin 2) (s : Fin 8) (r : Fin 128) (q : Fin 256) :
    (sendT g s).view.emb (ix2 r q) = (ix3 g (prow s r) q : S2x1024x256.Idx) := by
  show (rSend g s).emb (Shape.reshapeEquiv _ (ix2 r q : S128x256.Idx)) = _
  rw [Shape.reshapeEquiv_eq_of_rowMajor _ (y := (ix3 0 r q : S1x128x256.Idx))
    (by rw [Shape.rowMajor_val_three, Shape.rowMajor_val_two]; simp)]
  exact emb_rSend g s r q

theorem emb_rFin (c : Dev nD) (g : Fin 2) (s : Fin 8) (r : Fin 128) (q : Fin 256) :
    (yM.access (rFin c g s)).emb (ix2 r q : S128x256.Idx)
      = (ix2 ⟨1024 * g.val + 128 * s.val + r.val, by omega⟩ ⟨256 * (col c 0).val + q.val, by omega⟩ : S2048x2048.Idx) := by
  have h0 := congrFun (finOff_col c g s) 0
  have h1 := congrFun (finOff_col c g s) 1
  funext k
  refine Fin.ext ?_
  match k with
  | ⟨0, _⟩ => show finOff c g s 0 + 1 * r.val = 1024 * g.val + 128 * s.val + r.val; rw [h0, one_mul]; rfl
  | ⟨1, _⟩ => show finOff c g s 1 + 1 * q.val = 256 * (col c 0).val + q.val; rw [h1, one_mul]; rfl

/-! ## The pieces' arithmetic at an element -/

theorem pay3_at (v : Vec Ideal S1x1x128x256 .f32) (r : Fin 128) (q : Fin 256) :
    (k0_pay3 v (ix3 0 r q) : EReal) = v (ix4 0 0 r q) := by
  unfold k0_pay3
  rw [shapeCast_apply _ _ (ix3 0 r q : S1x128x256.Idx) (ix2 r q : S128x256.Idx)
    (by rw [Shape.rowMajor_val_three, Shape.rowMajor_val_two]; simp)]
  show (shapeCast S128x256 v shapeCasts_S1x1x128x256_S128x256 (ix2 r q) : EReal) = _
  rw [shapeCast_apply _ _ (ix2 r q : S128x256.Idx) (ix4 0 0 r q : S1x1x128x256.Idx)
    (by rw [Shape.rowMajor_val_four, Shape.rowMajor_val_two]; simp)]

theorem drop_at {e : EltTy} (v : Vec Ideal S1x1x128x256 e) (r : Fin 128) (q : Fin 256) :
    shapeCast S128x256 v shapeCasts_S1x1x128x256_S128x256 (ix2 r q) = v (ix4 0 0 r q) :=
  shapeCast_apply _ _ (ix2 r q : S128x256.Idx) (ix4 0 0 r q : S1x1x128x256.Idx)
    (by rw [Shape.rowMajor_val_four, Shape.rowMajor_val_two]; simp)

theorem pay16_at (v : Vec Ideal S1x1x128x256 .bf16) (w : Vec Ideal S1x1x128x256 .f32) (r : Fin 128) (q : Fin 256) :
    (k0_pay16 v w (ix3 0 r q) : EReal) = (v (ix4 0 0 r q) : EReal) + w (ix4 0 0 r q) := by
  unfold k0_pay16
  rw [shapeCast_apply _ _ (ix3 0 r q : S1x128x256.Idx) (ix2 r q : S128x256.Idx)
    (by rw [Shape.rowMajor_val_three, Shape.rowMajor_val_two]; simp)]
  show (shapeCast S128x256 v shapeCasts_S1x1x128x256_S128x256 (ix2 r q) : EReal)
    + shapeCast S128x256 w shapeCasts_S1x1x128x256_S128x256 (ix2 r q) = _
  rw [drop_at, drop_at]

theorem pay30_at (v : Vec Ideal S1x1x128x256 .bf16) (w : Vec Ideal S1x1x128x256 .f32) (r : Fin 128) (q : Fin 256) :
    (k0_pay30 v w (ix2 r q) : EReal) = (v (ix4 0 0 r q) : EReal) + w (ix4 0 0 r q) := by
  unfold k0_pay30
  rw [shapeCast_self]
  show (shapeCast S128x256 v shapeCasts_S1x1x128x256_S128x256 (ix2 r q) : EReal)
    + shapeCast S128x256 w shapeCasts_S1x1x128x256_S128x256 (ix2 r q) = _
  rw [drop_at, drop_at]

/-! ## The partial sums -/

section Values
variable (m : (ℓ : Loc nD τ sig) → Buf (Elt Ideal) ℓ)

/-- Element `(i, j)` of a device's block of `x`. -/
def xAt (d : Dev nD) (i j : ℕ) : EReal :=
  (xBuf m d : S1x8192x2048.Idx → EReal) (ix3 0 ⟨i % 8192, Nat.mod_lt _ (by decide)⟩ ⟨j % 2048, Nat.mod_lt _ (by decide)⟩)

theorem tile_at (c : Dev nD) (g : Fin 2) (h : Fin 4) (s : Fin 8) (r : Fin 128) (q : Fin 256) :
    (tileM.view.readAt (Elt Ideal) (rTile g h s).toLoadRect (tileV m c g h) (ix4 0 0 r q : S1x1x128x256.Idx) : EReal)
      = xAt m c (2048 * blk c h + (1024 * g.val + 128 * s.val + r.val)) (256 * (col c 0).val + q.val) := by
  show (tileV m c g h ((rTile g h s).toLoadRect.idx (ix4 0 0 r q : S1x1x128x256.Idx)) : EReal) = _
  rw [emb_rTile, ← emb_tile]
  unfold tileV
  rw [View.write_emb_of_mem (v := (tileT g (sl h)).view) (Val := Elt Ideal) _ _ (M := Finset.univ) (x := ix2 (prow s r) q) (Finset.mem_univ _)]
  show (xBuf m c ((xSrc c g h).view.emb (ix2 (prow s r) q)) : EReal) = _
  rw [emb_x]
  unfold xAt
  have h4 := blk_lt c h
  congr 1
  funext k
  refine Fin.ext ?_
  match k with
  | ⟨0, _⟩ => rfl
  | ⟨1, _⟩ =>
    show 2048 * blk c h + 1024 * g.val + (128 * s.val + r.val) = (2048 * blk c h + (1024 * g.val + 128 * s.val + r.val)) % 8192
    omega
  | ⟨2, _⟩ =>
    show 256 * (col c 0).val + q.val = (256 * (col c 0).val + q.val) % 2048
    omega

theorem land_at (c : Dev nD) (g : Fin 2) (h : Fin 3) (s : Fin 8) (f : (cc0_scratch0 : Ref sig .tc).ty.Contents (Elt Ideal))
    (r : Fin 128) (q : Fin 256) :
    (inM.view.readAt (Elt Ideal) (rIn g h s).toLoadRect (landV m c g h s f) (ix4 0 0 r q : S1x1x128x256.Idx) : EReal)
      = f (ix3 g (prow s r) q : S2x1024x256.Idx) := by
  show (landV m c g h s f ((rIn g h s).toLoadRect.idx (ix4 0 0 r q : S1x1x128x256.Idx)) : EReal) = _
  rw [emb_rIn, ← emb_in]
  unfold landV
  rw [View.write_emb_of_mem (v := (inT g h s).view) (Val := Elt Ideal) _ _ (M := Finset.univ) (x := ix2 r q) (Finset.mem_univ _)]
  show (f ((sendT g s).view.emb (ix2 r q)) : EReal) = _
  rw [emb_send]

/-- Element `(r, q)` of piece `s` of what a device sends at a hop. -/
def sendAt (j : ℕ) (h : j < 3) (c : Dev nD) (g : Fin 2) (s : Fin 8) (r : Fin 128) (q : Fin 256) : EReal :=
  sendN m j h c g s (ix3 g (prow s r) q : S2x1024x256.Idx)

theorem send_zero_at (h : 0 < 3) (c : Dev nD) (g : Fin 2) (s : Fin 8) (r : Fin 128) (q : Fin 256) :
    sendAt m 0 h c g s r q = xAt m c (2048 * blk c 0 + (1024 * g.val + 128 * s.val + r.val)) (256 * (col c 0).val + q.val) := by
  unfold sendAt
  rw [← emb_rSend]
  unfold sendN
  rw [View.write_emb_of_mem (v := sendM.access (rSend g s)) (Val := Elt Ideal) _ _ (M := Finset.univ)
    (x := (ix3 0 r q : S1x128x256.Idx)) (Finset.mem_univ _)]
  exact (pay3_at _ r q).trans (tile_at m c g 0 s r q)

theorem send_succ_at (j : ℕ) (h : j + 1 < 3) (h' : j < 3) (c : Dev nD) (g : Fin 2) (s : Fin 8) (r : Fin 128) (q : Fin 256) :
    sendAt m (j+1) h c g s r q = sendAt m j h' (left c) g s r q
      + xAt m c (2048 * blk c ⟨j+1, by omega⟩ + (1024 * g.val + 128 * s.val + r.val)) (256 * (col c 0).val + q.val) := by
  conv_lhs => unfold sendAt; rw [← emb_rSend]; unfold sendN
  rw [View.write_emb_of_mem (v := sendM.access (rSend g s)) (Val := Elt Ideal) _ _ (M := Finset.univ)
    (x := (ix3 0 r q : S1x128x256.Idx)) (Finset.mem_univ _)]
  refine (pay16_at _ _ r q).trans ?_
  rw [land_at, tile_at]
  rfl

/-- The device `k` places to the left. -/
abbrev left2 (c : Dev nD) : Dev nD := left (left c)
abbrev left3 (c : Dev nD) : Dev nD := left (left (left c))

theorem col_left : ∀ c : Dev nD, col (left c) 0 = col c 0 := by decide +kernel
theorem blk_ring : ∀ c : Dev nD, blk (left3 c) 0 = blk c 3 ∧ blk (left2 c) 1 = blk c 3 ∧ blk (left c) 2 = blk c 3 := by decide +kernel

theorem fin_at (c : Dev nD) (g : Fin 2) (s : Fin 8) (r : Fin 128) (q : Fin 256) :
    (finV m c g s (ix2 ⟨1024 * g.val + 128 * s.val + r.val, by omega⟩ ⟨256 * (col c 0).val + q.val, by omega⟩ : S2048x2048.Idx) : EReal)
      = xAt m (left3 c) (2048 * blk c 3 + (1024 * g.val + 128 * s.val + r.val)) (256 * (col c 0).val + q.val)
        + xAt m (left2 c) (2048 * blk c 3 + (1024 * g.val + 128 * s.val + r.val)) (256 * (col c 0).val + q.val)
        + xAt m (left c) (2048 * blk c 3 + (1024 * g.val + 128 * s.val + r.val)) (256 * (col c 0).val + q.val)
        + xAt m c (2048 * blk c 3 + (1024 * g.val + 128 * s.val + r.val)) (256 * (col c 0).val + q.val) := by
  obtain ⟨b0, b1, b2⟩ := blk_ring c
  rw [← emb_rFin]
  unfold finV
  rw [View.write_emb_of_mem (v := yM.access (rFin c g s)) (Val := Elt Ideal) _ _ (M := Finset.univ)
    (x := (ix2 r q : S128x256.Idx)) (Finset.mem_univ _)]
  refine (pay30_at _ _ r q).trans ?_
  rw [tile_at]
  unfold inV
  rw [land_at]
  show sendAt m (1+1) (by decide) (left c) g s r q + xAt m c _ _ = _
  rw [send_succ_at m 1 (by decide) (by decide), send_succ_at m 0 (by decide) (by decide), send_zero_at]
  simp only [col_left]
  rw [show blk (left c) ⟨1+1, _⟩ = blk c 3 from b2, show blk (left2 c) ⟨0+1, _⟩ = blk c 3 from b1, b0]

/-! ## All of `y` -/

theorem col_owner : ∀ (c : Dev nD) (q : Fin 8), col (owner c q) 0 = q := by decide +kernel
theorem blk_owner : ∀ (c : Dev nD) (q : Fin 8), blk (owner c q) 3 = c.val / 4 % 4 := by decide +kernel

/-- An element of `y`: the sum of the four blocks of `x`, the owner's own block last. -/
theorem y_at (c : Dev nD) (i j : Fin 2048) (o : Dev nD) (ho : o = owner c ⟨j.val / 256, by omega⟩) :
    (yV m c (ix2 i j : S2048x2048.Idx) : EReal)
      = xAt m (left3 o) (2048 * (c.val / 4 % 4) + i.val) j.val + xAt m (left2 o) (2048 * (c.val / 4 % 4) + i.val) j.val
        + xAt m (left o) (2048 * (c.val / 4 % 4) + i.val) j.val + xAt m o (2048 * (c.val / 4 % 4) + i.val) j.val := by
  have hg : i.val / 1024 < 2 := by omega
  have hb : blk o 3 = c.val / 4 % 4 := by rw [ho]; exact blk_owner c _
  have hc : (col o 0).val = j.val / 256 := by rw [ho, col_owner]
  have e0 : 1024 * (i.val / 1024) + 128 * (i.val / 128 % 8) + i.val % 128 = i.val := by omega
  have e1 : 256 * (col o 0).val + j.val % 256 = j.val := by omega
  have h := fin_at m o ⟨i.val / 1024, hg⟩ ⟨i.val / 128 % 8, Nat.mod_lt _ (by decide)⟩ ⟨i.val % 128, Nat.mod_lt _ (by decide)⟩
    ⟨j.val % 256, Nat.mod_lt _ (by decide)⟩
  simp only [hb, e0, e1] at h
  rw [← h]
  show (finV m (owner c ⟨j.val / 256 % 8, _⟩) ⟨i.val / 1024 % 2, _⟩ ⟨i.val / 128 % 8, _⟩ (ix2 i j) : EReal) = _
  have q0 : (⟨j.val / 256 % 8, Nat.mod_lt _ (by decide)⟩ : Fin 8) = ⟨j.val / 256, by omega⟩ := Fin.ext (Nat.mod_eq_of_lt (by omega))
  have q1 : (⟨i.val / 1024 % 2, Nat.mod_lt _ (by decide)⟩ : Fin 2) = ⟨i.val / 1024, hg⟩ := Fin.ext (Nat.mod_eq_of_lt hg)
  rw [q0, q1, ← ho]

end Values

end Cert.Fused
end
-- ==== Proof.Rows.lean ====
/- What the kernel's last stage computes over the reals: every row of `y` divided by its root mean
   square and scaled by `gamma`; and the same of the reference. -/
module

public import proofs.«01_k».proof.Proof.Partial
public import proofs.«01_k».proof.Proof.Gen.ReferenceIdeal.Run

@[expose] public section

noncomputable section

namespace Cert.Fused

open Idealize.ShloMosaic Idealize.SL.Sem Cert.KernelIdeal Cert.KernelIdeal.Gen
open Idealize.ShloMosaic.TcCoe Idealize.ShloMosaic.ValueIdx

/-! ## A product with the reciprocal root is a quotient by the root -/

/-- The mean of the squares of a row plus the small constant. -/
def meanSq (v : Fin 2048 → EReal) : EReal :=
  Ideal.div (∑ k, v k * v k) (Ideal.ofBits .f32 0x45000000#32) + Ideal.ofBits .f32 0x358637BD#32

theorem count_eq : Ideal.ofBits .f32 0x45000000#32 = ((2048 : ℝ) : EReal) := by
  simp [Ideal.ofBits, Ideal.ieee, -EReal.coe_mul]; norm_num

theorem eps_pos : (0 : EReal) < Ideal.ofBits .f32 0x358637BD#32 := by
  simp [Ideal.ofBits, Ideal.ieee, -EReal.coe_mul]

theorem sq_nonneg (x : EReal) : 0 ≤ x * x := by
  induction x with
  | bot => simp
  | top => simp
  | coe r => rw [← EReal.coe_mul]; exact EReal.coe_nonneg.mpr (mul_self_nonneg r)

theorem meanSq_pos (v : Fin 2048 → EReal) : 0 < meanSq v := by
  unfold meanSq
  have h : 0 ≤ Ideal.div (∑ k, v k * v k) (Ideal.ofBits .f32 0x45000000#32) := by
    rw [count_eq, Ideal.div_coe (by norm_num)]
    exact mul_nonneg (Finset.sum_nonneg fun k _ => sq_nonneg (v k)) (EReal.coe_nonneg.mpr (by norm_num))
  exact lt_of_lt_of_le eps_pos (le_add_of_nonneg_left h)

theorem mul_rsqrt (x v : EReal) (hv : 0 < v) : x * Ideal.rsqrt v = Ideal.div x (Ideal.sqrt v) := by
  induction v with
  | bot => exact absurd hv (by simp)
  | top => simp [Ideal.div]
  | coe r =>
    have hr : 0 < r := EReal.coe_pos.mp hv
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

/-! ## The kernel's rows -/

theorem pay80_at (v : Vec Ideal S512x2048 .bf16) (w : Vec Ideal S2048 .f32) (r : Fin 512) (j : Fin 2048) :
    (k0_pay80 v w (ix3 0 r j) : EReal)
      = (v (ix2 r j) : EReal) * Ideal.rsqrt (meanSq fun k => v (ix2 r k)) * w (ix1 j) := by
  unfold k0_pay80
  rw [shapeCast_apply _ _ (ix3 0 r j : S1x512x2048.Idx) (ix2 r j : S512x2048.Idx)
    (by rw [Shape.rowMajor_val_three, Shape.rowMajor_val_two]; simp)]
  show (v (ix2 r j) : EReal) * broadcastTo S512x2048 _ broadcasts_S512x1_S512x2048 (ix2 r j)
    * broadcastTo S512x2048 _ broadcasts_S1x2048_S512x2048 (ix2 r j) = _
  rw [broadcastTo_apply _ broadcasts_S512x1_S512x2048 (ix2 r j : S512x2048.Idx) (ix2 r 0 : S512x1.Idx)
      (fun a => match a with | ⟨0, _⟩ => rfl | ⟨1, _⟩ => rfl),
    broadcastTo_apply _ broadcasts_S1x2048_S512x2048 (ix2 r j : S512x2048.Idx) (ix2 0 j : S1x2048.Idx)
      (fun a => match a with | ⟨0, _⟩ => rfl | ⟨1, _⟩ => rfl),
    shapeCast_apply _ _ (ix2 0 j : S1x2048.Idx) (ix1 j : S2048.Idx)
      (by rw [Shape.rowMajor_val_two, Shape.rowMajor_val_one]; simp), shapeCast_self]
  show (v (ix2 r j) : EReal) * Ideal.rsqrt (Ideal.div (shapeCast S512x1 _ shapeCasts_S512_S512x1 (ix2 r 0))
    (Ideal.ofBits .f32 0x45000000#32) + Ideal.ofBits .f32 0x358637BD#32) * w (ix1 j) = _
  rw [shapeCast_apply _ _ (ix2 r 0 : S512x1.Idx) (ix1 r : S512.Idx)
      (by rw [Shape.rowMajor_val_two, Shape.rowMajor_val_one]; simp)]
  refine (congrArg (fun t : EReal => (v (ix2 r j) : EReal) * Ideal.rsqrt (Ideal.div t (Ideal.ofBits .f32 0x45000000#32)
    + Ideal.ofBits .f32 0x358637BD#32) * w (ix1 j)) (Ideal.multiReduction_add_single _ _ _ _ _ _)).trans ?_
  have hl : ∀ k : Fin 2048, reduces_S512x2048_S512.lift (ix1 r : S512.Idx) k = (ix2 r k : S512x2048.Idx) := fun k => by
    funext a
    match a with
    | ⟨0, _⟩ => rfl
    | ⟨1, _⟩ => rfl
  show (v (ix2 r j) : EReal) * Ideal.rsqrt (Ideal.div (∑ k : Fin 2048, (v (reduces_S512x2048_S512.lift (ix1 r : S512.Idx) k) : EReal)
    * v (reduces_S512x2048_S512.lift (ix1 r : S512.Idx) k)) _ + _) * _ = _
  simp only [hl]
  rfl

theorem emb_stg (i : Fin 2) (a : Fin 512) (b : Fin 2048) :
    (stgM.access (rStg i)).emb (ix3 0 a b : S1x512x2048.Idx) = (ix3 i a b : S2x512x2048.Idx) := by
  funext k
  refine Fin.ext ?_
  match k with
  | ⟨0, _⟩ => show i.val + 1 * 0 = i.val; omega
  | ⟨1, _⟩ => show 0 + 1 * a.val = a.val; omega
  | ⟨2, _⟩ => show 0 + 1 * b.val = b.val; omega

theorem emb_stgT (i : Fin 2) (a : Fin 512) (b : Fin 2048) :
    (stgT i).view.emb (ix2 a b) = (stgM.access (rStg i)).emb (ix3 0 a b : S1x512x2048.Idx) := by
  show (rStg i).emb (Shape.reshapeEquiv _ (ix2 a b : S512x2048.Idx)) = _
  rw [Shape.reshapeEquiv_eq_of_rowMajor _ (y := (ix3 0 a b : S1x512x2048.Idx))
    (by rw [Shape.rowMajor_val_three, Shape.rowMajor_val_two]; simp)]
  rfl

theorem emb_row (t : Fin 4) (a : Fin 512) (b : Fin 2048) :
    (rRow t).toLoadRect.idx (ix2 a b : S512x2048.Idx) = (ix2 ⟨512 * t.val + a.val, by omega⟩ b : S2048x2048.Idx) := by
  funext k
  refine Fin.ext ?_
  match k with
  | ⟨0, _⟩ => show 512 * t.val + 1 * a.val = 512 * t.val + a.val; omega
  | ⟨1, _⟩ => show 0 + 1 * b.val = b.val; omega

theorem emb_out (t : Fin 4) (a : Fin 512) (b : Fin 2048) :
    (outT t).view.emb (ix2 a b : S512x2048.Idx) = (ix2 ⟨512 * t.val + a.val, by omega⟩ b : S2048x2048.Idx) := emb_row t a b

section Values
variable (m : (ℓ : Loc nD τ sig) → Buf (Elt Ideal) ℓ)

theorem gamma_at (c : Dev nD) (j : Fin 2048) :
    (gamM.view.readAt (Elt Ideal) rGam.toLoadRect (gBuf m c) (ix1 j : S2048.Idx) : EReal)
      = (m ((c : Thread nD τ).loc main_arg1) : S2048.Idx → EReal) (ix1 j) := by
  show (m ((c : Thread nD τ).loc main_arg1) : S2048.Idx → EReal)
    ((win0_0.blk (0 : Fin 1)).view.emb (rGam.toLoadRect.idx (ix1 j : S2048.Idx))) = _
  congr 1
  funext k
  refine Fin.ext ?_
  match k with
  | ⟨0, _⟩ => show _ + 1 * (0 + 1 * j.val) = j.val; simp [win0_0]; exact Or.inl rfl

/-- Element `(i, j)` of a device's `y`. -/
def yAt (c : Dev nD) (i j : Fin 2048) : EReal := yV m c (ix2 i j : S2048x2048.Idx)

/-- An element of a block of 512 rows of the result. -/
theorem block_at (c : Dev nD) (t : Fin 4) (a : Fin 512) (j : Fin 2048) :
    (outW m c t (ix2 ⟨512 * t.val + a.val, by omega⟩ j : S2048x2048.Idx) : EReal)
      = yAt m c ⟨512 * t.val + a.val, by omega⟩ j * Ideal.rsqrt (meanSq fun k => yAt m c ⟨512 * t.val + a.val, by omega⟩ k)
        * (m ((c : Thread nD τ).loc main_arg1) : S2048.Idx → EReal) (ix1 j) := by
  conv_lhs => rw [← emb_out]
  unfold outW
  rw [View.write_emb_of_mem (v := (outT t).view) (Val := Elt Ideal) _ _ (M := Finset.univ)
    (x := (ix2 a j : S512x2048.Idx)) (Finset.mem_univ _)]
  obtain ⟨f, hf⟩ : ∃ f, f = stgV m c t := ⟨_, rfl⟩
  rw [← hf]
  show (f ((stgT (sl t)).view.emb (ix2 a j : S512x2048.Idx)) : EReal) = _
  rw [emb_stgT, hf]
  unfold stgV
  rw [View.write_emb_of_mem (v := stgM.access (rStg (sl t))) (Val := Elt Ideal) _ _ (M := Finset.univ)
    (x := (ix3 0 a j : S1x512x2048.Idx)) (Finset.mem_univ _)]
  refine (pay80_at _ _ a j).trans ?_
  rw [gamma_at]
  unfold yAt
  simp only [← emb_row]
  rfl

/-- An element of the result: the row of `y` by its root mean square, by `gamma`. -/
theorem out_at (c : Dev nD) (i j : Fin 2048) :
    (outV m c (ix2 i j : S2048x2048.Idx) : EReal)
      = Ideal.div (yAt m c i j) (Ideal.sqrt (meanSq fun k => yAt m c i k))
        * (m ((c : Thread nD τ).loc main_arg1) : S2048.Idx → EReal) (ix1 j) := by
  have ht : i.val / 512 < 4 := by omega
  rw [← mul_rsqrt _ _ (meanSq_pos _)]
  show (outW m c ⟨i.val / 512 % 4, _⟩ (ix2 i j) : EReal) = _
  rw [show (⟨i.val / 512 % 4, Nat.mod_lt _ (by decide)⟩ : Fin 4) = ⟨i.val / 512, ht⟩ from Fin.ext (Nat.mod_eq_of_lt ht)]
  have h := block_at m c ⟨i.val / 512, ht⟩ ⟨i.val % 512, Nat.mod_lt _ (by decide)⟩ j
  simp only [Nat.div_add_mod] at h
  exact h

end Values

end Cert.Fused
end
-- ==== Proof.Whole.lean ====
/- What the reference computes over the reals, element by element. -/
module

public import proofs.«01_k».proof.Proof.Rows

@[expose] public section

noncomputable section

namespace Cert.Fused

open Idealize.ShloMosaic Idealize.SL.Sem Cert.ReferenceIdeal Cert.ReferenceIdeal.Gen
open Idealize.ShloMosaic.TcCoe Idealize.ShloMosaic.ValueIdx

/-- The reference's sum of the four blocks. -/
def sumR (x : FVec Ideal S4x8192x2048 .f32) : FVec Ideal S8192x2048 .f32 :=
  Host.reduceAdd x (constant S_ .f32 0x00000000#32) reducesTo_S4x8192x2048_S8192x2048_d0 h_S_

/-- The reference's result. -/
def refR (x : FVec Ideal S4x8192x2048 .f32) (g : FVec Ideal S2048 .f32) : FVec Ideal S8192x2048 .f32 :=
  mulf (Host.divf (sumR x) (broadcastInDim S8192x2048 ![0, 1] bcast_S8192x1_S8192x2048_0_1 (Host.sqrt (addf (Host.divf
    (broadcastInDim S8192x1 ![0] bcast_S8192_S8192x1_0 (Host.reduceAdd (mulf (sumR x) (sumR x)) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem red0 : Shape.Reduces S4x8192x2048 [0] S8192x2048 := by decide
theorem red1 : Shape.Reduces S8192x2048 [1] S8192 := by decide

theorem sumR_at (x : FVec Ideal S4x8192x2048 .f32) (i : Fin 8192) (j : Fin 2048) :
    (sumR x (ix2 i j) : EReal) = ∑ k : Fin 4, (x (ix3 k i j) : EReal) := by
  show Ideal.hostReduceAdd reducesTo_S4x8192x2048_S8192x2048_d0 x (Ideal.ofBits .f32 0x00000000#32) (ix2 i j) = _
  rw [Ideal.hostReduceAdd_single _ red0, Ideal.ofBits_zero_f32, zero_add]
  refine Finset.sum_congr rfl fun k _ => congrArg x ?_
  funext a
  match a with
  | ⟨0, _⟩ => rfl
  | ⟨1, _⟩ => rfl
  | ⟨2, _⟩ => rfl

theorem refR_at (x : FVec Ideal S4x8192x2048 .f32) (g : FVec Ideal S2048 .f32) (i : Fin 8192) (j : Fin 2048) :
    (refR x g (ix2 i j) : EReal)
      = Ideal.div (sumR x (ix2 i j)) (Ideal.sqrt (meanSq fun k => sumR x (ix2 i k))) * g (ix1 j) := by
  unfold refR
  generalize sumR x = y
  show Ideal.div (y (ix2 i j)) (broadcastInDim (s := S8192x1) S8192x2048 ![0, 1] bcast_S8192x1_S8192x2048_0_1 _ (ix2 i j))
    * broadcastInDim (s := S1x2048) S8192x2048 ![0, 1] bcast_S1x2048_S8192x2048_0_1 _ (ix2 i j) = _
  rw [broadcastInDim_apply ![0, 1] bcast_S8192x1_S8192x2048_0_1 _ (ix2 i j : S8192x2048.Idx) (ix2 i 0 : S8192x1.Idx)
      (fun a => match a with | ⟨0, _⟩ => rfl | ⟨1, _⟩ => rfl),
    broadcastInDim_apply ![0, 1] bcast_S1x2048_S8192x2048_0_1 _ (ix2 i j : S8192x2048.Idx) (ix2 0 j : S1x2048.Idx)
      (fun a => match a with | ⟨0, _⟩ => rfl | ⟨1, _⟩ => rfl),
    broadcastInDim_apply ![1] bcast_S2048_S1x2048_1 _ (ix2 0 j : S1x2048.Idx) (ix1 j : S2048.Idx)
      (fun a => match a with | ⟨0, _⟩ => rfl)]
  show Ideal.div (y (ix2 i j)) (Ideal.sqrt (Ideal.div (broadcastInDim (s := S8192) S8192x1 ![0] bcast_S8192_S8192x1_0 _ (ix2 i 0))
    (Ideal.ofBits .f32 0x45000000#32) + Ideal.ofBits .f32 0x358637BD#32)) * g (ix1 j) = _
  rw [broadcastInDim_apply ![0] bcast_S8192_S8192x1_0 _ (ix2 i 0 : S8192x1.Idx) (ix1 i : S8192.Idx)
      (fun a => match a with | ⟨0, _⟩ => rfl)]
  show Ideal.div (y (ix2 i j)) (Ideal.sqrt (Ideal.div (Ideal.hostReduceAdd reducesTo_S8192x2048_S8192_d1 (mulf y y)
    (Ideal.ofBits .f32 0x00000000#32) (ix1 i)) _ + _)) * _ = _
  rw [Ideal.hostReduceAdd_single _ red1, Ideal.ofBits_zero_f32, zero_add]
  have hl : ∀ k : Fin 2048, red1.lift (ix1 i : S8192.Idx) k = (ix2 i k : S8192x2048.Idx) := fun k => by
    funext a
    match a with
    | ⟨0, _⟩ => rfl
    | ⟨1, _⟩ => rfl
  show Ideal.div (y (ix2 i j)) (Ideal.sqrt (Ideal.div (∑ k : Fin 2048, (y (red1.lift (ix1 i : S8192.Idx) k) : EReal)
    * y (red1.lift (ix1 i : S8192.Idx) k)) _ + _)) * _ = _
  simp only [hl]
  rfl

/-! ## The two agree -/

/-- An element of a device's block of rows of an array. -/
theorem block_rows (c : Dev Cert.KernelIdeal.nD) (v : FVec Ideal S8192x2048 .f32) (a b : Fin 2048) :
    (Layout.blockN ⟨2, ![2048, 2048]⟩ ⟨2, ![8192, 2048]⟩ (Layout.meshBlock [2, 4, 4] ![[1], []] c) v :
      (⟨2, ![2048, 2048]⟩ : Shape).Idx → EReal) (ix2 a b) = v (ix2 ⟨2048 * (c.val / 4 % 4) + a.val, by omega⟩ b) := by
  show v _ = _
  congr 1
  funext k
  refine Fin.ext ?_
  match k with
  | ⟨0, _⟩ => show (c.val / 4 % 4 * 1 + 0) * 2048 + a.val = 2048 * (c.val / 4 % 4) + a.val; omega
  | ⟨1, _⟩ => show 0 * 2048 + b.val = b.val; omega

section Agree
variable (m : (ℓ : Loc Cert.KernelIdeal.nD Cert.KernelIdeal.τ Cert.KernelIdeal.sig) → Buf (Elt Ideal) ℓ)
  (x : FVec Ideal S4x8192x2048 .f32)

/-- Each device's block of `x` is the one its `y` coordinate names. -/
theorem x_at (d : Dev Cert.KernelIdeal.nD) (k : Fin 4) (hk : d.val / 4 % 4 = k.val)
    (hx : m ((d.tc : Thread Cert.KernelIdeal.nD Cert.KernelIdeal.τ).loc Cert.KernelIdeal.main_arg0)
      = Layout.blockN ⟨3, ![1, 8192, 2048]⟩ ⟨3, ![4, 8192, 2048]⟩ (Layout.meshBlock [2, 4, 4] ![[1], [], []] d) x)
    (i : Fin 8192) (j : Fin 2048) : xAt m d i.val j.val = x (ix3 k i j) := by
  unfold xAt xBuf
  rw [hx]
  show x _ = _
  congr 1
  funext a
  refine Fin.ext ?_
  match a with
  | ⟨0, _⟩ => show (d.val / 4 % 4 * 1 + 0) * 1 + 0 = k.val; omega
  | ⟨1, _⟩ => show 0 * 8192 + i.val % 8192 = i.val; omega
  | ⟨2, _⟩ => show 0 * 2048 + j.val % 2048 = j.val; omega

/-- The four devices of a ring, by `y` coordinate. -/
theorem ring_y : ∀ o : Dev Cert.KernelIdeal.nD, (left o).val / 4 % 4 = (o.val / 4 % 4 + 3) % 4
    ∧ (left2 o).val / 4 % 4 = (o.val / 4 % 4 + 2) % 4 ∧ (left3 o).val / 4 % 4 = (o.val / 4 % 4 + 1) % 4 := by decide +kernel

/-- A sum over the four blocks, started anywhere on the ring. -/
theorem sum_ring (f : Fin 4 → EReal) (k : Fin 4) :
    f ⟨(k.val + 1) % 4, Nat.mod_lt _ (by decide)⟩ + f ⟨(k.val + 2) % 4, Nat.mod_lt _ (by decide)⟩
      + f ⟨(k.val + 3) % 4, Nat.mod_lt _ (by decide)⟩ + f k = ∑ k, f k := by
  have h : ∑ j, f j = ∑ j, f (j + (k + 1)) := (Equiv.sum_comp (Equiv.addRight (k + 1)) f).symm
  rw [h, Fin.sum_univ_four]
  clear h
  congr 1
  · congr 1
    · congr 1
      all_goals (congr 1; revert k; decide)
    · congr 1; revert k; decide
  · congr 1; revert k; decide

variable (hx : ∀ d : Dev Cert.KernelIdeal.nD,
    m ((d.tc : Thread Cert.KernelIdeal.nD Cert.KernelIdeal.τ).loc Cert.KernelIdeal.main_arg0)
      = Layout.blockN ⟨3, ![1, 8192, 2048]⟩ ⟨3, ![4, 8192, 2048]⟩ (Layout.meshBlock [2, 4, 4] ![[1], [], []] d) x)
include hx

/-- A device's `y` is its block of rows of the sum. -/
theorem y_sum (c : Dev Cert.KernelIdeal.nD) (i j : Fin 2048) :
    yAt m c i j = sumR x (ix2 ⟨2048 * (c.val / 4 % 4) + i.val, by omega⟩ j) := by
  unfold yAt
  rw [y_at m c i j _ rfl, sumR_at]
  generalize owner c ⟨j.val / 256, _⟩ = o
  obtain ⟨h1, h2, h3⟩ := ring_y o
  have hlt : 2048 * (c.val / 4 % 4) + i.val < 8192 := by omega
  have hk : o.val / 4 % 4 < 4 := Nat.mod_lt _ (by decide)
  rw [x_at m x (left3 o) ⟨(o.val / 4 % 4 + 1) % 4, Nat.mod_lt _ (by decide)⟩ h3 (hx _) ⟨_, hlt⟩ j,
    x_at m x (left2 o) ⟨(o.val / 4 % 4 + 2) % 4, Nat.mod_lt _ (by decide)⟩ h2 (hx _) ⟨_, hlt⟩ j,
    x_at m x (left o) ⟨(o.val / 4 % 4 + 3) % 4, Nat.mod_lt _ (by decide)⟩ h1 (hx _) ⟨_, hlt⟩ j,
    x_at m x o ⟨o.val / 4 % 4, hk⟩ rfl (hx _) ⟨_, hlt⟩ j]
  exact sum_ring (fun k => x (ix3 k ⟨_, hlt⟩ j)) ⟨o.val / 4 % 4, hk⟩

/-- A device's result is its block of rows of the reference's. -/
theorem out_ref (g : FVec Ideal S2048 .f32) (c : Dev Cert.KernelIdeal.nD)
    (hg : m ((c.tc : Thread Cert.KernelIdeal.nD Cert.KernelIdeal.τ).loc Cert.KernelIdeal.main_arg1) = g) :
    outV m c = Layout.blockN ⟨2, ![2048, 2048]⟩ ⟨2, ![8192, 2048]⟩ (Layout.meshBlock [2, 4, 4] ![[1], []] c) (refR x g) := by
  funext i
  rw [show (i : Cert.KernelIdeal.S2048x2048.Idx) = ix2 (i 0) (i 1) from eq_ix2 i]
  obtain ⟨a, ha⟩ : ∃ a : Fin 2048, a = i 0 := ⟨_, rfl⟩
  obtain ⟨b, hb⟩ : ∃ b : Fin 2048, b = i 1 := ⟨_, rfl⟩
  rw [← ha, ← hb]
  refine (out_at m c a b).trans ?_
  simp only [y_sum m x hx]
  refine Eq.trans ?_ ((block_rows c (refR x g) a b).trans (refR_at x g _ b)).symm
  congr 1
  exact congrFun hg (ix1 b)

end Agree

end Cert.Fused
end
-- ==== Proof.lean ====
/- The claims: each program terminates without fault, leaves its arguments unchanged and every counter at zero; the
   ideal program is the kernel over the extended reals; and there it computes the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Whole
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-! ## The two prints are one program -/

theorem bodies_eq : (@Cert.Kernel.defs₀ Bits _ _ : Defs Cert.KernelIdeal.nD Cert.KernelIdeal.τ Cert.KernelIdeal.sig (Elt Bits) Cert.KernelIdeal.Λ₀) = Cert.KernelIdeal.defs₀ := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : (@Cert.Kernel.defs Bits _ _ : Defs Cert.KernelIdeal.nD Cert.KernelIdeal.τ Cert.KernelIdeal.sig (Elt Bits)
    (Pipeline.Sig Cert.KernelIdeal.Λ₀ (Fin 1) fun p => (Cert.KernelIdeal.pcfgs (F := Bits) p).Adm)) = Cert.KernelIdeal.defs :=
  congrArg (Pipeline.defs Cert.KernelIdeal.pcfgs) bodies_eq

/-! ## The claims -/

/-- The printed kernel, at machine words. -/
theorem frame_kernel : Cert.quiescent_Kernel := fun m ρ _ => by
  have h := Cert.Fused.run_frame (F := Bits) m ρ
  rw [← defs_eq] at h
  exact h

/-- The same kernel over the extended reals. -/
theorem frame_ideal : Cert.quiescent_KernelIdeal := fun m ρ _ => Cert.Fused.run_frame (F := Ideal) m ρ

/-- The reference: host operations alone, no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the reference's arguments the kernel leaves on every device its block of rows of the reference's
    result. -/
theorem algebraic : Cert.algebraic_KernelIdeal_ReferenceIdeal := fun m ρ m' ρ' _ hm =>
  ⟨Cert.Fused.refR (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨(h.1 c).2.2.trans (Cert.Fused.out_ref m _ (fun d => (hm d).1) _ c (hm c).2), (h.1 c).1, (h.1 c).2.1⟩)
      (Cert.Fused.run_main (F := Ideal) m ρ),
    (θ_run Cert.ReferenceIdeal.defs _ _).mono (fun r h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
